-- ==== Defs.lean ====
def Pre_Search [hPre_keys_in_range : Cert.Pre_keys_in_range.Facts] (m : (ℓ : Loc Cert.Search.nD Cert.Search.τ Cert.Search.sig) → Buf (Elt Bits) ℓ) : Prop :=
  ∀ c : Dev Cert.Search.nD,
    (Cert.Pre_keys_in_range.fn (F := Bits) (m ((c.tc : Thread Cert.Search.nD Cert.Search.τ).loc Cert.Search.main_arg0))) = (fun _ => 1#1)

def Pre_SearchIdeal [hPre_keys_in_range : Cert.Pre_keys_in_range.Facts] (m : (ℓ : Loc Cert.SearchIdeal.nD Cert.SearchIdeal.τ Cert.SearchIdeal.sig) → Buf (Elt Ideal) ℓ) : Prop :=
  ∀ c : Dev Cert.SearchIdeal.nD,
    (Cert.Pre_keys_in_range.fn (F := Ideal) (m ((c.tc : Thread Cert.SearchIdeal.nD Cert.SearchIdeal.τ).loc Cert.SearchIdeal.main_arg0))) = (fun _ => 1#1)

def Pre_SelectionIdeal (m : (ℓ : Loc Cert.SelectionIdeal.nD Cert.SelectionIdeal.τ Cert.SelectionIdeal.sig) → Buf (Elt Ideal) ℓ) : Prop :=
  True

def Pre_SelectionIdeal_keys_in_range [hPre_keys_in_range : Cert.Pre_keys_in_range.Facts] (m : (ℓ : Loc Cert.SelectionIdeal.nD Cert.SelectionIdeal.τ Cert.SelectionIdeal.sig) → Buf (Elt Ideal) ℓ) : Prop :=
  ∀ c : Dev Cert.SelectionIdeal.nD,
    (Cert.Pre_keys_in_range.fn (F := Ideal) (m ((c.tc : Thread Cert.SelectionIdeal.nD Cert.SelectionIdeal.τ).loc Cert.SelectionIdeal.main_arg0))) = (fun _ => 1#1)

def Pre_Selection [hPre_keys_in_range : Cert.Pre_keys_in_range.Facts] (m : (ℓ : Loc Cert.Selection.nD Cert.Selection.τ Cert.Selection.sig) → Buf (Elt Bits) ℓ) : Prop :=
  ∀ c : Dev Cert.Selection.nD,
    (Cert.Pre_keys_in_range.fn (F := Bits) (m ((c.tc : Thread Cert.Selection.nD Cert.Selection.τ).loc Cert.Selection.main_arg0))) = (fun _ => 1#1)

def Pre_Decode (m : (ℓ : Loc Cert.Decode.nD Cert.Decode.τ Cert.Decode.sig) → Buf (Elt Bits) ℓ) : Prop :=
  True

def Pre_DecodeIdeal (m : (ℓ : Loc Cert.DecodeIdeal.nD Cert.DecodeIdeal.τ Cert.DecodeIdeal.sig) → Buf (Elt Ideal) ℓ) : Prop :=
  True

def Pre_DecodeIdeal_searched [hPre_searched : Cert.Pre_searched.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_searched.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1)) (m ((c.tc : Thread Cert.DecodeIdeal.nD Cert.DecodeIdeal.τ).loc Cert.DecodeIdeal.main_arg2))) = (fun _ => 1#1)

def Pre_ReconstructionIdeal (m : (ℓ : Loc Cert.ReconstructionIdeal.nD Cert.ReconstructionIdeal.τ Cert.ReconstructionIdeal.sig) → Buf (Elt Ideal) ℓ) : Prop :=
  True

def Pre_ReconstructionIdeal_searched [hPre_searched : Cert.Pre_searched.Facts] (m : (ℓ : Loc Cert.ReconstructionIdeal.nD Cert.ReconstructionIdeal.τ Cert.ReconstructionIdeal.sig) → Buf (Elt Ideal) ℓ) : Prop :=
  ∀ c : Dev Cert.ReconstructionIdeal.nD,
    (Cert.Pre_searched.fn (F := Ideal) (m ((c.tc : Thread Cert.ReconstructionIdeal.nD Cert.ReconstructionIdeal.τ).loc Cert.ReconstructionIdeal.main_arg0)) (m ((c.tc : Thread Cert.ReconstructionIdeal.nD Cert.ReconstructionIdeal.τ).loc Cert.ReconstructionIdeal.main_arg1)) (m ((c.tc : Thread Cert.ReconstructionIdeal.nD Cert.ReconstructionIdeal.τ).loc Cert.ReconstructionIdeal.main_arg2))) = (fun _ => 1#1)

def Pre_EncodeKeys (m : (ℓ : Loc Cert.EncodeKeys.nD Cert.EncodeKeys.τ Cert.EncodeKeys.sig) → Buf (Elt Bits) ℓ) : Prop :=
  True

def Pre_Encode (m : (ℓ : Loc Cert.Encode.nD Cert.Encode.τ Cert.Encode.sig) → Buf (Elt Bits) ℓ) : Prop :=
  True

def Pre_EncodeIdeal (m : (ℓ : Loc Cert.EncodeIdeal.nD Cert.EncodeIdeal.τ Cert.EncodeIdeal.sig) → Buf (Elt Ideal) ℓ) : Prop :=
  True

def Pre_ActivationsIdeal (m : (ℓ : Loc Cert.ActivationsIdeal.nD Cert.ActivationsIdeal.τ Cert.ActivationsIdeal.sig) → Buf (Elt Ideal) ℓ) : Prop :=
  True

def quiescent_Search [hSearch : Cert.Search.Facts] [hPre_keys_in_range : Cert.Pre_keys_in_range.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0))
      ∧ r.2.sem = fun _ => 0)

def quiescent_SearchIdeal [hSearchIdeal : Cert.SearchIdeal.Facts] [hPre_keys_in_range : Cert.Pre_keys_in_range.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ r.2.sem = fun _ => 0)

def quiescent_SelectionIdeal [hSelectionIdeal : Cert.SelectionIdeal.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0))
      ∧ r.2.sem = fun _ => 0)

def quiescent_SelectionIdeal_pre_keys_in_range [hSelectionIdeal : Cert.SelectionIdeal.Facts] [hPre_keys_in_range : Cert.Pre_keys_in_range.Facts] : Prop :=
  ∀ (m : (ℓ : Loc Cert.SelectionIdeal.nD Cert.SelectionIdeal.τ Cert.SelectionIdeal.sig) → Buf (Elt Ideal) ℓ) (g : Dev Cert.SelectionIdeal.nD → PrngReg), Pre_SelectionIdeal_keys_in_range m →
    θ_run (Cert.SelectionIdeal.defs (F := Ideal)) (onTc (τ := Cert.SelectionIdeal.τ) (Cert.SelectionIdeal.main (F := Ideal))) ⟨m, fun _ => 0, g⟩ (fun r => (∀ c : Dev Cert.SelectionIdeal.nD,
      r.2.mem ((c.tc : Thread Cert.SelectionIdeal.nD Cert.SelectionIdeal.τ).loc Cert.SelectionIdeal.main_arg0) = m ((c.tc : Thread Cert.SelectionIdeal.nD Cert.SelectionIdeal.τ).loc Cert.SelectionIdeal.main_arg0))
      ∧ r.2.sem = fun _ => 0)

def quiescent_Selection [hSelection : Cert.Selection.Facts] [hPre_keys_in_range : Cert.Pre_keys_in_range.Facts] : Prop :=
  ∀ (m : (ℓ : Loc Cert.Selection.nD Cert.Selection.τ Cert.Selection.sig) → Buf (Elt Bits) ℓ) (g : Dev Cert.Selection.nD → PrngReg), Pre_Selection m →
    θ_run (Cert.Selection.defs (F := Bits)) (onTc (τ := Cert.Selection.τ) (Cert.Selection.main (F := Bits))) ⟨m, fun _ => 0, g⟩ (fun r => (∀ c : Dev Cert.Selection.nD,
      r.2.mem ((c.tc : Thread Cert.Selection.nD Cert.Selection.τ).loc Cert.Selection.main_arg0) = m ((c.tc : Thread Cert.Selection.nD Cert.Selection.τ).loc Cert.Selection.main_arg0))
      ∧ r.2.sem = fun _ => 0)

def quiescent_Decode [hDecode : Cert.Decode.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (onTc (τ := Cert.Decode.τ) (Cert.Decode.main (F := Bits))) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1)
      ∧ r.2.mem ((c.tc : Thread Cert.Decode.nD Cert.Decode.τ).loc Cert.Decode.main_arg2) = m ((c.tc : Thread Cert.Decode.nD Cert.Decode.τ).loc Cert.Decode.main_arg2))
      ∧ r.2.sem = fun _ => 0)

def quiescent_DecodeIdeal [hDecodeIdeal : Cert.DecodeIdeal.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2))
      ∧ r.2.sem = fun _ => 0)

def quiescent_DecodeIdeal_pre_searched [hDecodeIdeal : Cert.DecodeIdeal.Facts] [hPre_searched : Cert.Pre_searched.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal_searched m →
    θ_run (Cert.DecodeIdeal.defs (F := Ideal)) (onTc (τ := Cert.DecodeIdeal.τ) (Cert.DecodeIdeal.main (F := Ideal))) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
      ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2))
      ∧ r.2.sem = fun _ => 0)

def quiescent_ReconstructionIdeal [hReconstructionIdeal : Cert.ReconstructionIdeal.Facts] : Prop :=
  ∀ (m : (ℓ : Loc Cert.ReconstructionIdeal.nD Cert.ReconstructionIdeal.τ Cert.ReconstructionIdeal.sig) → Buf (Elt Ideal) ℓ) (g : Dev Cert.ReconstructionIdeal.nD → PrngReg), Pre_ReconstructionIdeal m →
    θ_run (Cert.ReconstructionIdeal.defs (F := Ideal)) (onTc (τ := Cert.ReconstructionIdeal.τ) (Cert.ReconstructionIdeal.main (F := Ideal))) ⟨m, fun _ => 0, g⟩ (fun r => (∀ c : Dev Cert.ReconstructionIdeal.nD,
      r.2.mem ((c.tc : Thread Cert.ReconstructionIdeal.nD Cert.ReconstructionIdeal.τ).loc Cert.ReconstructionIdeal.main_arg0) = m ((c.tc : Thread Cert.ReconstructionIdeal.nD Cert.ReconstructionIdeal.τ).loc Cert.ReconstructionIdeal.main_arg0)
      ∧ r.2.mem ((c.tc : Thread Cert.ReconstructionIdeal.nD Cert.ReconstructionIdeal.τ).loc Cert.ReconstructionIdeal.main_arg1) = m ((c.tc : Thread Cert.ReconstructionIdeal.nD Cert.ReconstructionIdeal.τ).loc Cert.ReconstructionIdeal.main_arg1)
      ∧ r.2.mem ((c.tc : Thread Cert.ReconstructionIdeal.nD Cert.ReconstructionIdeal.τ).loc Cert.ReconstructionIdeal.main_arg2) = m ((c.tc : Thread Cert.ReconstructionIdeal.nD Cert.ReconstructionIdeal.τ).loc Cert.ReconstructionIdeal.main_arg2))
      ∧ r.2.sem = fun _ => 0)

def quiescent_ReconstructionIdeal_pre_searched [hReconstructionIdeal : Cert.ReconstructionIdeal.Facts] [hPre_searched : Cert.Pre_searched.Facts] : Prop :=
  ∀ (m : (ℓ : Loc Cert.ReconstructionIdeal.nD Cert.ReconstructionIdeal.τ Cert.ReconstructionIdeal.sig) → Buf (Elt Ideal) ℓ) (g : Dev Cert.ReconstructionIdeal.nD → PrngReg), Pre_ReconstructionIdeal_searched m →
    θ_run (Cert.ReconstructionIdeal.defs (F := Ideal)) (onTc (τ := Cert.ReconstructionIdeal.τ) (Cert.ReconstructionIdeal.main (F := Ideal))) ⟨m, fun _ => 0, g⟩ (fun r => (∀ c : Dev Cert.ReconstructionIdeal.nD,
      r.2.mem ((c.tc : Thread Cert.ReconstructionIdeal.nD Cert.ReconstructionIdeal.τ).loc Cert.ReconstructionIdeal.main_arg0) = m ((c.tc : Thread Cert.ReconstructionIdeal.nD Cert.ReconstructionIdeal.τ).loc Cert.ReconstructionIdeal.main_arg0)
      ∧ r.2.mem ((c.tc : Thread Cert.ReconstructionIdeal.nD Cert.ReconstructionIdeal.τ).loc Cert.ReconstructionIdeal.main_arg1) = m ((c.tc : Thread Cert.ReconstructionIdeal.nD Cert.ReconstructionIdeal.τ).loc Cert.ReconstructionIdeal.main_arg1)
      ∧ r.2.mem ((c.tc : Thread Cert.ReconstructionIdeal.nD Cert.ReconstructionIdeal.τ).loc Cert.ReconstructionIdeal.main_arg2) = m ((c.tc : Thread Cert.ReconstructionIdeal.nD Cert.ReconstructionIdeal.τ).loc Cert.ReconstructionIdeal.main_arg2))
      ∧ r.2.sem = fun _ => 0)

def quiescent_EncodeKeys [hEncodeKeys : Cert.EncodeKeys.Facts] : Prop :=
  ∀ (m : (ℓ : Loc Cert.EncodeKeys.nD Cert.EncodeKeys.τ Cert.EncodeKeys.sig) → Buf (Elt Bits) ℓ) (g : Dev Cert.EncodeKeys.nD → PrngReg), Pre_EncodeKeys m →
    θ_run (Cert.EncodeKeys.defs (F := Bits)) (onTc (τ := Cert.EncodeKeys.τ) (Cert.EncodeKeys.main (F := Bits))) ⟨m, fun _ => 0, g⟩ (fun r => (∀ c : Dev Cert.EncodeKeys.nD,
      r.2.mem ((c.tc : Thread Cert.EncodeKeys.nD Cert.EncodeKeys.τ).loc Cert.EncodeKeys.main_arg0) = m ((c.tc : Thread Cert.EncodeKeys.nD Cert.EncodeKeys.τ).loc Cert.EncodeKeys.main_arg0)
      ∧ r.2.mem ((c.tc : Thread Cert.EncodeKeys.nD Cert.EncodeKeys.τ).loc Cert.EncodeKeys.main_arg1) = m ((c.tc : Thread Cert.EncodeKeys.nD Cert.EncodeKeys.τ).loc Cert.EncodeKeys.main_arg1)
      ∧ r.2.mem ((c.tc : Thread Cert.EncodeKeys.nD Cert.EncodeKeys.τ).loc Cert.EncodeKeys.main_arg2) = m ((c.tc : Thread Cert.EncodeKeys.nD Cert.EncodeKeys.τ).loc Cert.EncodeKeys.main_arg2)
      ∧ r.2.mem ((c.tc : Thread Cert.EncodeKeys.nD Cert.EncodeKeys.τ).loc Cert.EncodeKeys.main_arg3) = m ((c.tc : Thread Cert.EncodeKeys.nD Cert.EncodeKeys.τ).loc Cert.EncodeKeys.main_arg3))
      ∧ r.2.sem = fun _ => 0)

def quiescent_Encode [hEncode : Cert.Encode.Facts] : Prop :=
  ∀ (m : (ℓ : Loc Cert.Encode.nD Cert.Encode.τ Cert.Encode.sig) → Buf (Elt Bits) ℓ) (g : Dev Cert.Encode.nD → PrngReg), Pre_Encode m →
    θ_run (Cert.Encode.defs (F := Bits)) (onTc (τ := Cert.Encode.τ) (Cert.Encode.main (F := Bits))) ⟨m, fun _ => 0, g⟩ (fun r => (∀ c : Dev Cert.Encode.nD,
      r.2.mem ((c.tc : Thread Cert.Encode.nD Cert.Encode.τ).loc Cert.Encode.main_arg0) = m ((c.tc : Thread Cert.Encode.nD Cert.Encode.τ).loc Cert.Encode.main_arg0)
      ∧ r.2.mem ((c.tc : Thread Cert.Encode.nD Cert.Encode.τ).loc Cert.Encode.main_arg1) = m ((c.tc : Thread Cert.Encode.nD Cert.Encode.τ).loc Cert.Encode.main_arg1)
      ∧ r.2.mem ((c.tc : Thread Cert.Encode.nD Cert.Encode.τ).loc Cert.Encode.main_arg2) = m ((c.tc : Thread Cert.Encode.nD Cert.Encode.τ).loc Cert.Encode.main_arg2)
      ∧ r.2.mem ((c.tc : Thread Cert.Encode.nD Cert.Encode.τ).loc Cert.Encode.main_arg3) = m ((c.tc : Thread Cert.Encode.nD Cert.Encode.τ).loc Cert.Encode.main_arg3))
      ∧ r.2.sem = fun _ => 0)

def quiescent_EncodeIdeal [hEncodeIdeal : Cert.EncodeIdeal.Facts] : Prop :=
  ∀ (m : (ℓ : Loc Cert.EncodeIdeal.nD Cert.EncodeIdeal.τ Cert.EncodeIdeal.sig) → Buf (Elt Ideal) ℓ) (g : Dev Cert.EncodeIdeal.nD → PrngReg), Pre_EncodeIdeal m →
    θ_run (Cert.EncodeIdeal.defs (F := Ideal)) (onTc (τ := Cert.EncodeIdeal.τ) (Cert.EncodeIdeal.main (F := Ideal))) ⟨m, fun _ => 0, g⟩ (fun r => (∀ c : Dev Cert.EncodeIdeal.nD,
      r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
      ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
      ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
      ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3))
      ∧ r.2.sem = fun _ => 0)

def quiescent_ActivationsIdeal [hActivationsIdeal : Cert.ActivationsIdeal.Facts] : Prop :=
  ∀ (m : (ℓ : Loc Cert.ActivationsIdeal.nD Cert.ActivationsIdeal.τ Cert.ActivationsIdeal.sig) → Buf (Elt Ideal) ℓ) (g : Dev Cert.ActivationsIdeal.nD → PrngReg), Pre_ActivationsIdeal m →
    θ_run (Cert.ActivationsIdeal.defs (F := Ideal)) (onTc (τ := Cert.ActivationsIdeal.τ) (Cert.ActivationsIdeal.main (F := Ideal))) ⟨m, fun _ => 0, g⟩ (fun r => (∀ c : Dev Cert.ActivationsIdeal.nD,
      r.2.mem ((c.tc : Thread Cert.ActivationsIdeal.nD Cert.ActivationsIdeal.τ).loc Cert.ActivationsIdeal.main_arg0) = m ((c.tc : Thread Cert.ActivationsIdeal.nD Cert.ActivationsIdeal.τ).loc Cert.ActivationsIdeal.main_arg0)
      ∧ r.2.mem ((c.tc : Thread Cert.ActivationsIdeal.nD Cert.ActivationsIdeal.τ).loc Cert.ActivationsIdeal.main_arg1) = m ((c.tc : Thread Cert.ActivationsIdeal.nD Cert.ActivationsIdeal.τ).loc Cert.ActivationsIdeal.main_arg1)
      ∧ r.2.mem ((c.tc : Thread Cert.ActivationsIdeal.nD Cert.ActivationsIdeal.τ).loc Cert.ActivationsIdeal.main_arg2) = m ((c.tc : Thread Cert.ActivationsIdeal.nD Cert.ActivationsIdeal.τ).loc Cert.ActivationsIdeal.main_arg2)
      ∧ r.2.mem ((c.tc : Thread Cert.ActivationsIdeal.nD Cert.ActivationsIdeal.τ).loc Cert.ActivationsIdeal.main_arg3) = m ((c.tc : Thread Cert.ActivationsIdeal.nD Cert.ActivationsIdeal.τ).loc Cert.ActivationsIdeal.main_arg3))
      ∧ r.2.sem = fun _ => 0)

def preserves_Search_SearchIdeal : Prop :=
  True

def algebraic_SearchIdeal_SelectionIdeal [hSearchIdeal : Cert.SearchIdeal.Facts] [hSelectionIdeal : Cert.SelectionIdeal.Facts] [hPre_keys_in_range : Cert.Pre_keys_in_range.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.SelectionIdeal.nD Cert.SelectionIdeal.τ Cert.SelectionIdeal.sig) → Buf (Elt Ideal) ℓ) (g' : Dev Cert.SelectionIdeal.nD → PrngReg), Pre_SearchIdeal m →
    (∀ c : Dev Cert.SearchIdeal.nD,
      m' ((c.tc : Thread Cert.SelectionIdeal.nD Cert.SelectionIdeal.τ).loc Cert.SelectionIdeal.main_arg0) = m ((c.tc : Thread Cert.SearchIdeal.nD Cert.SearchIdeal.τ).loc Cert.SearchIdeal.main_arg0)) →
    ∃ (v0 : (c : Dev Cert.SearchIdeal.nD) → Buf (Elt Ideal) ((c.tc : Thread Cert.SearchIdeal.nD Cert.SearchIdeal.τ).loc Cert.SearchIdeal.main_v0)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v0) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0))
      ∧ θ_run (Cert.SelectionIdeal.defs (F := Ideal)) (onTc (τ := Cert.SelectionIdeal.τ) (Cert.SelectionIdeal.main (F := Ideal))) ⟨m', fun _ => 0, g'⟩ (fun r => ∀ c : Dev Cert.SelectionIdeal.nD,
          r.2.mem ((c.tc : Thread Cert.SelectionIdeal.nD Cert.SelectionIdeal.τ).loc Cert.SelectionIdeal.main_v8) = v0 c
          ∧ r.2.mem ((c.tc : Thread Cert.SelectionIdeal.nD Cert.SelectionIdeal.τ).loc Cert.SelectionIdeal.main_arg0) = m' ((c.tc : Thread Cert.SelectionIdeal.nD Cert.SelectionIdeal.τ).loc Cert.SelectionIdeal.main_arg0))

def bitexact_Search_Selection [hSearch : Cert.Search.Facts] [hSelection : Cert.Selection.Facts] [hPre_keys_in_range : Cert.Pre_keys_in_range.Facts] : Prop :=
  ∀ (m : (ℓ : Loc Cert.Search.nD Cert.Search.τ Cert.Search.sig) → Buf (Elt Bits) ℓ) (g : Dev Cert.Search.nD → PrngReg)
    (m' : (ℓ : Loc Cert.Selection.nD Cert.Selection.τ Cert.Selection.sig) → Buf (Elt Bits) ℓ) (g' : Dev Cert.Selection.nD → PrngReg), Pre_Search m →
    (∀ c : Dev Cert.Search.nD,
      m' ((c.tc : Thread Cert.Selection.nD Cert.Selection.τ).loc Cert.Selection.main_arg0) = m ((c.tc : Thread Cert.Search.nD Cert.Search.τ).loc Cert.Search.main_arg0)) →
    ∃ (v0 : (c : Dev Cert.Search.nD) → Buf (Elt Bits) ((c.tc : Thread Cert.Search.nD Cert.Search.τ).loc Cert.Search.main_v0)),
      θ_run (Cert.Search.defs (F := Bits)) (onTc (τ := Cert.Search.τ) (Cert.Search.main (F := Bits))) ⟨m, fun _ => 0, g⟩ (fun r => ∀ c : Dev Cert.Search.nD,
          r.2.mem ((c.tc : Thread Cert.Search.nD Cert.Search.τ).loc Cert.Search.main_v0) = v0 c
          ∧ r.2.mem ((c.tc : Thread Cert.Search.nD Cert.Search.τ).loc Cert.Search.main_arg0) = m ((c.tc : Thread Cert.Search.nD Cert.Search.τ).loc Cert.Search.main_arg0))
      ∧ θ_run (Cert.Selection.defs (F := Bits)) (onTc (τ := Cert.Selection.τ) (Cert.Selection.main (F := Bits))) ⟨m', fun _ => 0, g'⟩ (fun r => ∀ c : Dev Cert.Selection.nD,
          r.2.mem ((c.tc : Thread Cert.Selection.nD Cert.Selection.τ).loc Cert.Selection.main_v8) = v0 c
          ∧ r.2.mem ((c.tc : Thread Cert.Selection.nD Cert.Selection.τ).loc Cert.Selection.main_arg0) = m' ((c.tc : Thread Cert.Selection.nD Cert.Selection.τ).loc Cert.Selection.main_arg0))

def preserves_Decode_DecodeIdeal : Prop :=
  True

def algebraic_DecodeIdeal_ReconstructionIdeal_pre_searched [hDecodeIdeal : Cert.DecodeIdeal.Facts] [hReconstructionIdeal : Cert.ReconstructionIdeal.Facts] [hPre_searched : Cert.Pre_searched.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.ReconstructionIdeal.nD Cert.ReconstructionIdeal.τ Cert.ReconstructionIdeal.sig) → Buf (Elt Ideal) ℓ) (g' : Dev Cert.ReconstructionIdeal.nD → PrngReg), Pre_DecodeIdeal_searched m →
    (∀ c : Dev Cert.DecodeIdeal.nD,
      m' ((c.tc : Thread Cert.ReconstructionIdeal.nD Cert.ReconstructionIdeal.τ).loc Cert.ReconstructionIdeal.main_arg0) = m ((c.tc : Thread Cert.DecodeIdeal.nD Cert.DecodeIdeal.τ).loc Cert.DecodeIdeal.main_arg0)
      ∧ m' ((c.tc : Thread Cert.ReconstructionIdeal.nD Cert.ReconstructionIdeal.τ).loc Cert.ReconstructionIdeal.main_arg1) = m ((c.tc : Thread Cert.DecodeIdeal.nD Cert.DecodeIdeal.τ).loc Cert.DecodeIdeal.main_arg1)
      ∧ m' ((c.tc : Thread Cert.ReconstructionIdeal.nD Cert.ReconstructionIdeal.τ).loc Cert.ReconstructionIdeal.main_arg2) = m ((c.tc : Thread Cert.DecodeIdeal.nD Cert.DecodeIdeal.τ).loc Cert.DecodeIdeal.main_arg2)) →
    ∃ (v0 : (c : Dev Cert.DecodeIdeal.nD) → Buf (Elt Ideal) ((c.tc : Thread Cert.DecodeIdeal.nD Cert.DecodeIdeal.τ).loc Cert.DecodeIdeal.main_v0)),
      θ_run (Cert.DecodeIdeal.defs (F := Ideal)) (onTc (τ := Cert.DecodeIdeal.τ) (Cert.DecodeIdeal.main (F := Ideal))) ⟨m, fun _ => 0, g⟩ (fun r => ∀ c : Dev Cert.DecodeIdeal.nD,
          r.2.mem ((c.tc : Thread Cert.DecodeIdeal.nD Cert.DecodeIdeal.τ).loc Cert.DecodeIdeal.main_v0) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1)
          ∧ r.2.mem ((c.tc : Thread Cert.DecodeIdeal.nD Cert.DecodeIdeal.τ).loc Cert.DecodeIdeal.main_arg2) = m ((c.tc : Thread Cert.DecodeIdeal.nD Cert.DecodeIdeal.τ).loc Cert.DecodeIdeal.main_arg2))
      ∧ θ_run (Cert.ReconstructionIdeal.defs (F := Ideal)) (onTc (τ := Cert.ReconstructionIdeal.τ) (Cert.ReconstructionIdeal.main (F := Ideal))) ⟨m', fun _ => 0, g'⟩ (fun r => ∀ c : Dev Cert.ReconstructionIdeal.nD,
          r.2.mem ((c.tc : Thread Cert.ReconstructionIdeal.nD Cert.ReconstructionIdeal.τ).loc Cert.ReconstructionIdeal.main_v14) = v0 c
          ∧ r.2.mem ((c.tc : Thread Cert.ReconstructionIdeal.nD Cert.ReconstructionIdeal.τ).loc Cert.ReconstructionIdeal.main_arg0) = m' ((c.tc : Thread Cert.ReconstructionIdeal.nD Cert.ReconstructionIdeal.τ).loc Cert.ReconstructionIdeal.main_arg0)
          ∧ r.2.mem ((c.tc : Thread Cert.ReconstructionIdeal.nD Cert.ReconstructionIdeal.τ).loc Cert.ReconstructionIdeal.main_arg1) = m' ((c.tc : Thread Cert.ReconstructionIdeal.nD Cert.ReconstructionIdeal.τ).loc Cert.ReconstructionIdeal.main_arg1)
          ∧ r.2.mem ((c.tc : Thread Cert.ReconstructionIdeal.nD Cert.ReconstructionIdeal.τ).loc Cert.ReconstructionIdeal.main_arg2) = m' ((c.tc : Thread Cert.ReconstructionIdeal.nD Cert.ReconstructionIdeal.τ).loc Cert.ReconstructionIdeal.main_arg2))

def preserves_Encode_EncodeIdeal : Prop :=
  True

def algebraic_EncodeIdeal_ActivationsIdeal [hEncodeIdeal : Cert.EncodeIdeal.Facts] [hActivationsIdeal : Cert.ActivationsIdeal.Facts] : Prop :=
  ∀ (m : (ℓ : Loc Cert.EncodeIdeal.nD Cert.EncodeIdeal.τ Cert.EncodeIdeal.sig) → Buf (Elt Ideal) ℓ) (g : Dev Cert.EncodeIdeal.nD → PrngReg)
    (m' : (ℓ : Loc Cert.ActivationsIdeal.nD Cert.ActivationsIdeal.τ Cert.ActivationsIdeal.sig) → Buf (Elt Ideal) ℓ) (g' : Dev Cert.ActivationsIdeal.nD → PrngReg), Pre_EncodeIdeal m →
    (∀ c : Dev Cert.EncodeIdeal.nD,
      m' ((c.tc : Thread Cert.ActivationsIdeal.nD Cert.ActivationsIdeal.τ).loc Cert.ActivationsIdeal.main_arg0) = m ((c.tc : Thread Cert.EncodeIdeal.nD Cert.EncodeIdeal.τ).loc Cert.EncodeIdeal.main_arg0)
      ∧ m' ((c.tc : Thread Cert.ActivationsIdeal.nD Cert.ActivationsIdeal.τ).loc Cert.ActivationsIdeal.main_arg1) = m ((c.tc : Thread Cert.EncodeIdeal.nD Cert.EncodeIdeal.τ).loc Cert.EncodeIdeal.main_arg1)
      ∧ m' ((c.tc : Thread Cert.ActivationsIdeal.nD Cert.ActivationsIdeal.τ).loc Cert.ActivationsIdeal.main_arg2) = m ((c.tc : Thread Cert.EncodeIdeal.nD Cert.EncodeIdeal.τ).loc Cert.EncodeIdeal.main_arg2)
      ∧ m' ((c.tc : Thread Cert.ActivationsIdeal.nD Cert.ActivationsIdeal.τ).loc Cert.ActivationsIdeal.main_arg3) = m ((c.tc : Thread Cert.EncodeIdeal.nD Cert.EncodeIdeal.τ).loc Cert.EncodeIdeal.main_arg3)) →
    ∃ (v0 : (c : Dev Cert.EncodeIdeal.nD) → Buf (Elt Ideal) ((c.tc : Thread Cert.EncodeIdeal.nD Cert.EncodeIdeal.τ).loc Cert.EncodeIdeal.main_v4)),
      θ_run (Cert.EncodeIdeal.defs (F := Ideal)) (onTc (τ := Cert.EncodeIdeal.τ) (Cert.EncodeIdeal.main (F := Ideal))) ⟨m, fun _ => 0, g⟩ (fun r => ∀ c : Dev Cert.EncodeIdeal.nD,
          r.2.mem ((c.tc : Thread Cert.EncodeIdeal.nD Cert.EncodeIdeal.τ).loc Cert.EncodeIdeal.main_v4) = v0 c
          ∧ r.2.mem ((c.tc : Thread Cert.EncodeIdeal.nD Cert.EncodeIdeal.τ).loc Cert.EncodeIdeal.main_arg0) = m ((c.tc : Thread Cert.EncodeIdeal.nD Cert.EncodeIdeal.τ).loc Cert.EncodeIdeal.main_arg0)
          ∧ r.2.mem ((c.tc : Thread Cert.EncodeIdeal.nD Cert.EncodeIdeal.τ).loc Cert.EncodeIdeal.main_arg1) = m ((c.tc : Thread Cert.EncodeIdeal.nD Cert.EncodeIdeal.τ).loc Cert.EncodeIdeal.main_arg1)
          ∧ r.2.mem ((c.tc : Thread Cert.EncodeIdeal.nD Cert.EncodeIdeal.τ).loc Cert.EncodeIdeal.main_arg2) = m ((c.tc : Thread Cert.EncodeIdeal.nD Cert.EncodeIdeal.τ).loc Cert.EncodeIdeal.main_arg2)
          ∧ r.2.mem ((c.tc : Thread Cert.EncodeIdeal.nD Cert.EncodeIdeal.τ).loc Cert.EncodeIdeal.main_arg3) = m ((c.tc : Thread Cert.EncodeIdeal.nD Cert.EncodeIdeal.τ).loc Cert.EncodeIdeal.main_arg3))
      ∧ θ_run (Cert.ActivationsIdeal.defs (F := Ideal)) (onTc (τ := Cert.ActivationsIdeal.τ) (Cert.ActivationsIdeal.main (F := Ideal))) ⟨m', fun _ => 0, g'⟩ (fun r => ∀ c : Dev Cert.ActivationsIdeal.nD,
          r.2.mem ((c.tc : Thread Cert.ActivationsIdeal.nD Cert.ActivationsIdeal.τ).loc Cert.ActivationsIdeal.main_v10) = v0 c
          ∧ r.2.mem ((c.tc : Thread Cert.ActivationsIdeal.nD Cert.ActivationsIdeal.τ).loc Cert.ActivationsIdeal.main_arg0) = m' ((c.tc : Thread Cert.ActivationsIdeal.nD Cert.ActivationsIdeal.τ).loc Cert.ActivationsIdeal.main_arg0)
          ∧ r.2.mem ((c.tc : Thread Cert.ActivationsIdeal.nD Cert.ActivationsIdeal.τ).loc Cert.ActivationsIdeal.main_arg1) = m' ((c.tc : Thread Cert.ActivationsIdeal.nD Cert.ActivationsIdeal.τ).loc Cert.ActivationsIdeal.main_arg1)
          ∧ r.2.mem ((c.tc : Thread Cert.ActivationsIdeal.nD Cert.ActivationsIdeal.τ).loc Cert.ActivationsIdeal.main_arg2) = m' ((c.tc : Thread Cert.ActivationsIdeal.nD Cert.ActivationsIdeal.τ).loc Cert.ActivationsIdeal.main_arg2)
          ∧ r.2.mem ((c.tc : Thread Cert.ActivationsIdeal.nD Cert.ActivationsIdeal.τ).loc Cert.ActivationsIdeal.main_arg3) = m' ((c.tc : Thread Cert.ActivationsIdeal.nD Cert.ActivationsIdeal.τ).loc Cert.ActivationsIdeal.main_arg3))

def Claim : Prop :=
  ∃ (hSearch : Cert.Search.Facts) (hSearchIdeal : Cert.SearchIdeal.Facts) (hSelectionIdeal : Cert.SelectionIdeal.Facts) (hSelection : Cert.Selection.Facts) (hDecode : Cert.Decode.Facts) (hDecodeIdeal : Cert.DecodeIdeal.Facts) (hReconstructionIdeal : Cert.ReconstructionIdeal.Facts) (hEncodeKeys : Cert.EncodeKeys.Facts) (hEncode : Cert.Encode.Facts) (hEncodeIdeal : Cert.EncodeIdeal.Facts) (hActivationsIdeal : Cert.ActivationsIdeal.Facts) (hPre_keys_in_range : Cert.Pre_keys_in_range.Facts) (hPre_searched : Cert.Pre_searched.Facts),
    quiescent_Search (hSearch := hSearch) (hPre_keys_in_range := hPre_keys_in_range)
    ∧ quiescent_SearchIdeal (hSearchIdeal := hSearchIdeal) (hPre_keys_in_range := hPre_keys_in_range)
    ∧ quiescent_SelectionIdeal (hSelectionIdeal := hSelectionIdeal)
    ∧ quiescent_SelectionIdeal_pre_keys_in_range (hSelectionIdeal := hSelectionIdeal) (hPre_keys_in_range := hPre_keys_in_range)
    ∧ quiescent_Selection (hSelection := hSelection) (hPre_keys_in_range := hPre_keys_in_range)
    ∧ quiescent_Decode (hDecode := hDecode)
    ∧ quiescent_DecodeIdeal (hDecodeIdeal := hDecodeIdeal)
    ∧ quiescent_DecodeIdeal_pre_searched (hDecodeIdeal := hDecodeIdeal) (hPre_searched := hPre_searched)
    ∧ quiescent_ReconstructionIdeal (hReconstructionIdeal := hReconstructionIdeal)
    ∧ quiescent_ReconstructionIdeal_pre_searched (hReconstructionIdeal := hReconstructionIdeal) (hPre_searched := hPre_searched)
    ∧ quiescent_EncodeKeys (hEncodeKeys := hEncodeKeys)
    ∧ quiescent_Encode (hEncode := hEncode)
    ∧ quiescent_EncodeIdeal (hEncodeIdeal := hEncodeIdeal)
    ∧ quiescent_ActivationsIdeal (hActivationsIdeal := hActivationsIdeal)
    ∧ preserves_Search_SearchIdeal
    ∧ algebraic_SearchIdeal_SelectionIdeal (hSearchIdeal := hSearchIdeal) (hSelectionIdeal := hSelectionIdeal) (hPre_keys_in_range := hPre_keys_in_range)
    ∧ bitexact_Search_Selection (hSearch := hSearch) (hSelection := hSelection) (hPre_keys_in_range := hPre_keys_in_range)
    ∧ preserves_Decode_DecodeIdeal
    ∧ algebraic_DecodeIdeal_ReconstructionIdeal_pre_searched (hDecodeIdeal := hDecodeIdeal) (hReconstructionIdeal := hReconstructionIdeal) (hPre_searched := hPre_searched)
    ∧ preserves_Encode_EncodeIdeal
    ∧ algebraic_EncodeIdeal_ActivationsIdeal (hEncodeIdeal := hEncodeIdeal) (hActivationsIdeal := hActivationsIdeal)
-- ==== Pre_keys_in_range.lean ====
abbrev S64x32x1024 : Shape := ⟨3, ![64, 32, 1024]⟩
abbrev S_ : Shape := ⟨0, ![]⟩

class Facts : Prop where
  bcast_S_S64x32x1024 : S_.BroadcastsInDim S64x32x1024 (![] : Fin 0 → Fin S64x32x1024.rank)
  reducesTo_S64x32x1024_S_d0_1_2 : S64x32x1024.ReducesTo [0, 1, 2] S_
  h_S_ : 0 < S_.numel

variable [Facts]

def fn {F : FTy → Type} [FloatOps F] (main_arg0 : IVec S64x32x1024 32) : IVec S_ 1 :=
  let main_c : IVec S_ 32 := constantI S_ 32 0#32
  let main_v0 : IVec S64x32x1024 32 := broadcastInDim S64x32x1024 ![] bcast_S_S64x32x1024 main_c
  let main_v1 : IVec S64x32x1024 1 := cmpi .sge main_arg0 main_v0
  let main_c_0 : IVec S_ 32 := constantI S_ 32 2147483647#32
  let main_v2 : IVec S64x32x1024 32 := broadcastInDim S64x32x1024 ![] bcast_S_S64x32x1024 main_c_0
  let main_v3 : IVec S64x32x1024 1 := cmpi .slt main_arg0 main_v2
  let main_v4 : IVec S64x32x1024 1 := andi main_v1 main_v3
  let main_c_1 : IVec S_ 1 := constantI S_ 1 1#1
  let main_v5 : IVec S_ 1 := (fun x v => Host.reduce IntOp.andi x v reducesTo_S64x32x1024_S_d0_1_2 h_S_) main_v4 main_c_1
  main_v5
-- ==== Pre_searched.lean ====
abbrev S2 : Shape := ⟨1, ![2]⟩
abbrev S64x32x1024 : Shape := ⟨3, ![64, 32, 1024]⟩
abbrev S2048x65536 : Shape := ⟨2, ![2048, 65536]⟩
abbrev S32x64x1024 : Shape := ⟨3, ![32, 64, 1024]⟩
abbrev S2097152 : Shape := ⟨1, ![2097152]⟩
abbrev S2048 : Shape := ⟨1, ![2048]⟩
abbrev S_ : Shape := ⟨0, ![]⟩
abbrev S1 : Shape := ⟨1, ![1]⟩

class Facts : Prop where
  transposes_S64x32x1024_S32x64x1024_1_0_2 : S64x32x1024.Transposes [1, 0, 2] S32x64x1024
  shapeCasts_S32x64x1024_S2097152 : S32x64x1024.ShapeCasts S2097152
  sliceFits_S2097152_S2048 : S2097152.Slices (fun _ => 0) S2048
  bcast_S_S64x32x1024 : S_.BroadcastsInDim S64x32x1024 (![] : Fin 0 → Fin S64x32x1024.rank)
  reducesTo_S64x32x1024_S_d0_1_2 : S64x32x1024.ReducesTo [0, 1, 2] S_
  h_S_ : 0 < S_.numel
  slices_S2_S1_0 : S2.Slices ![0] S1
  shapeCasts_S1_S_ : S1.ShapeCasts S_
  slices_S2048_S1_2047 : S2048.Slices ![2047] S1
  slices_S2_S1_1 : S2.Slices ![1] S1

variable [Facts]

def fn_part1 {F : FTy → Type} [FloatOps F] (main_v13 : IVec S_ 1) (main_v18 : IVec S_ 1) : IVec S_ 1 :=
  let main_v19 : IVec S_ 1 := andi main_v13 main_v18
  main_v19

def fn {F : FTy → Type} [FloatOps F] (main_arg0 : IVec S2 32) (main_arg1 : IVec S64x32x1024 32) (main_arg2 : FVec F S2048x65536 .f32) : IVec S_ 1 :=
  let main_v0 : IVec S32x64x1024 32 := (transpose S32x64x1024 [1, 0, 2] · transposes_S64x32x1024_S32x64x1024_1_0_2) main_arg1
  let main_v1 : IVec S2097152 32 := shapeCast S2097152 main_v0 shapeCasts_S32x64x1024_S2097152
  let main_values : IVec S2048 32 := (fun x => (Host.topK S2048 0 (IntOp.cmpi .sgt) x sliceFits_S2097152_S2048).1) main_v1
  let main_indices : IVec S2048 32 := (fun x => (Host.topK S2048 0 (IntOp.cmpi .sgt) x sliceFits_S2097152_S2048).2) main_v1
  let main_c : IVec S_ 32 := constantI S_ 32 0#32
  let main_v2 : IVec S64x32x1024 32 := broadcastInDim S64x32x1024 ![] bcast_S_S64x32x1024 main_c
  let main_v3 : IVec S64x32x1024 1 := cmpi .sge main_arg1 main_v2
  let main_c_0 : IVec S_ 32 := constantI S_ 32 2139095040#32
  let main_v4 : IVec S64x32x1024 32 := broadcastInDim S64x32x1024 ![] bcast_S_S64x32x1024 main_c_0
  let main_v5 : IVec S64x32x1024 1 := cmpi .sle main_arg1 main_v4
  let main_v6 : IVec S64x32x1024 1 := andi main_v3 main_v5
  let main_c_1 : IVec S_ 1 := constantI S_ 1 1#1
  let main_v7 : IVec S_ 1 := (fun x v => Host.reduce IntOp.andi x v reducesTo_S64x32x1024_S_d0_1_2 h_S_) main_v6 main_c_1
  let main_v8 : IVec S1 32 := (extractStridedSlice S1 ![0] · slices_S2_S1_0) main_arg0
  let main_v9 : IVec S_ 32 := shapeCast S_ main_v8 shapeCasts_S1_S_
  let main_v10 : IVec S1 32 := (extractStridedSlice S1 ![2047] · slices_S2048_S1_2047) main_values
  let main_v11 : IVec S_ 32 := shapeCast S_ main_v10 shapeCasts_S1_S_
  let main_v12 : IVec S_ 1 := cmpi .eq main_v9 main_v11
  let main_v13 : IVec S_ 1 := andi main_v7 main_v12
  let main_v14 : IVec S1 32 := (extractStridedSlice S1 ![1] · slices_S2_S1_1) main_arg0
  let main_v15 : IVec S_ 32 := shapeCast S_ main_v14 shapeCasts_S1_S_
  let main_v16 : IVec S1 32 := (extractStridedSlice S1 ![2047] · slices_S2048_S1_2047) main_indices
  let main_v17 : IVec S_ 32 := shapeCast S_ main_v16 shapeCasts_S1_S_
  let main_v18 : IVec S_ 1 := cmpi .eq main_v15 main_v17
  fn_part1 (F := F) main_v13 main_v18
-- ==== Search.lean ====
abbrev S64x32x1024 : Shape := ⟨3, ![64, 32, 1024]⟩
abbrev S2 : Shape := ⟨1, ![2]⟩
abbrev S8x128 : Shape := ⟨2, ![8, 128]⟩
abbrev S1x32x1024 : Shape := ⟨3, ![1, 32, 1024]⟩
abbrev S32x1024 : Shape := ⟨2, ![32, 1024]⟩
abbrev S8x1024 : Shape := ⟨2, ![8, 1024]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 2
  | .vmem => 1
  | .smem => 1
  | _ => 0

abbrev bufTy : (tb : Table) → Fin (tcTables nBuf tb) → BufTy
  | .hbm, ⟨0, _⟩ => ⟨S64x32x1024, .i32⟩
  | .hbm, ⟨1, _⟩ => ⟨S2, .i32⟩
  | .local _ .vmem, ⟨0, _⟩ => ⟨S64x32x1024, .i32⟩
  | .local _ .smem, ⟨0, _⟩ => ⟨S2, .i32⟩
  | _, _ => ⟨S64x32x1024, .i32⟩

abbrev bufScoped : (cs : CoreSpace) → Fin (nBuf (.core cs)) → Bool
  | .vmem, ⟨0, _⟩ => true
  | .smem, ⟨0, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c64_i32 : BitVec 32 := 64#32
  let v1 : BitVec 32 := Scalar.addi c0_i32_0 c64_i32
  let c1_i32 : BitVec 32 := 1#32
  ⟨c0_i32_0, v1, c1_i32⟩
def k0_off1 (k0_t1 : Fin k0_t1_loop.trips) : Fin 3 → Nat :=
  let c0_i32_0 : BitVec 32 := 0#32
  let c1_i32 : BitVec 32 := 1#32
  let arg2 : BitVec 32 := Scf.iv c0_i32_0 c1_i32 k0_t1
  let v23 : Index := Scalar.indexCast arg2
  let c0_12 : Index := 0#32
  let c0_13 : Index := 0#32
  ![v23.toNat, 0, 0]
@[reducible] def k0_t2_loop : Scf.Loop 32 :=
  let c0_i32_20 : BitVec 32 := 0#32
  let c64_i32_21 : BitVec 32 := 64#32
  let v44 : BitVec 32 := Scalar.addi c0_i32_20 c64_i32_21
  let c1_i32_22 : BitVec 32 := 1#32
  ⟨c0_i32_20, v44, c1_i32_22⟩
def k0_off2 (k0_t2 : Fin k0_t2_loop.trips) : Fin 3 → Nat :=
  let c0_i32_20 : BitVec 32 := 0#32
  let c1_i32_22 : BitVec 32 := 1#32
  let arg4 : BitVec 32 := Scf.iv c0_i32_20 c1_i32_22 k0_t2
  let v54 : Index := Scalar.indexCast arg4
  let c0_27 : Index := 0#32
  let c0_28 : Index := 0#32
  ![v54.toNat, 0, 0]
@[reducible] def k0_t3_loop : Scf.Loop 32 :=
  let c0_i32_5 : BitVec 32 := 0#32
  let c64_i32_6 : BitVec 32 := 64#32
  let v10 : BitVec 32 := Scalar.addi c0_i32_5 c64_i32_6
  let c1_i32_7 : BitVec 32 := 1#32
  ⟨c0_i32_5, v10, c1_i32_7⟩
def k0_off3 (k0_t3 : Fin k0_t3_loop.trips) : Fin 3 → Nat :=
  let c0_i32_5 : BitVec 32 := 0#32
  let c1_i32_7 : BitVec 32 := 1#32
  let arg2 : BitVec 32 := Scf.iv c0_i32_5 c1_i32_7 k0_t3
  let v23 : Index := Scalar.indexCast arg2
  let c0_12 : Index := 0#32
  let c0_13 : Index := 0#32
  ![v23.toNat, 0, 0]
@[reducible] def k0_t4_loop : Scf.Loop 32 :=
  let c0_i32_13 : BitVec 32 := 0#32
  let c64_i32_14 : BitVec 32 := 64#32
  let v24 : BitVec 32 := Scalar.addi c0_i32_13 c64_i32_14
  let c1_i32_15 : BitVec 32 := 1#32
  ⟨c0_i32_13, v24, c1_i32_15⟩
def k0_off4 (k0_t4 : Fin k0_t4_loop.trips) : Fin 3 → Nat :=
  let c0_i32_13 : BitVec 32 := 0#32
  let c1_i32_15 : BitVec 32 := 1#32
  let arg2 : BitVec 32 := Scf.iv c0_i32_13 c1_i32_15 k0_t4
  let v30 : Index := Scalar.indexCast arg2
  let c0_18 : Index := 0#32
  let c0_19 : Index := 0#32
  ![v30.toNat, 0, 0]
def k0_cond1 (v15 : BitVec 32) : BitVec 1 :=
  let c2048_i32 : BitVec 32 := 2048#32
  let v16 : BitVec 32 := Scalar.subi c2048_i32 v15
  let c1_i32_10 : BitVec 32 := 1#32
  let v17 : BitVec 1 := Scalar.cmpi .eq v16 c1_i32_10
  let v18 : BitVec 32 := Scalar.extui v17
  let c0_i32_11 : BitVec 32 := 0#32
  let v19 : BitVec 1 := Scalar.cmpi .ne v18 c0_i32_11
  v19

@[reducible] def k0_t5_loop : Scf.Loop 32 :=
  let c0_i32_20 : BitVec 32 := 0#32
  let c64_i32_21 : BitVec 32 := 64#32
  let v44 : BitVec 32 := Scalar.addi c0_i32_20 c64_i32_21
  let c1_i32_22 : BitVec 32 := 1#32
  ⟨c0_i32_20, v44, c1_i32_22⟩
def k0_off5 (k0_t5 : Fin k0_t5_loop.trips) : Fin 3 → Nat :=
  let c0_i32_20 : BitVec 32 := 0#32
  let c1_i32_22 : BitVec 32 := 1#32
  let arg4 : BitVec 32 := Scf.iv c0_i32_20 c1_i32_22 k0_t5
  let v54 : Index := Scalar.indexCast arg4
  let c0_26 : Index := 0#32
  let c0_27 : Index := 0#32
  ![v54.toNat, 0, 0]
abbrev stage0_0 : Fin 1 → Memref sig .tc .vmem S64x32x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Selection.lean ====
abbrev S64x32x1024 : Shape := ⟨3, ![64, 32, 1024]⟩
abbrev S32x64x1024 : Shape := ⟨3, ![32, 64, 1024]⟩
abbrev S2097152 : Shape := ⟨1, ![2097152]⟩
abbrev S2048 : Shape := ⟨1, ![2048]⟩
abbrev S1 : Shape := ⟨1, ![1]⟩
abbrev S_ : Shape := ⟨0, ![]⟩
abbrev S2 : Shape := ⟨1, ![2]⟩

abbrev nBuf : Space → Nat
  | .hbm => 12
  | .vmem => 0
  | .smem => 0
  | _ => 0

abbrev bufTy : (tb : Table) → Fin (tcTables nBuf tb) → BufTy
  | .hbm, ⟨0, _⟩ => ⟨S64x32x1024, .i32⟩
  | .hbm, ⟨1, _⟩ => ⟨S32x64x1024, .i32⟩
  | .hbm, ⟨2, _⟩ => ⟨S2097152, .i32⟩
  | .hbm, ⟨3, _⟩ => ⟨S2048, .i32⟩
  | .hbm, ⟨4, _⟩ => ⟨S2048, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S2, .i32⟩
  | _, _ => ⟨S64x32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_values : Ref sig .tc := ⟨.hbm, 3, rfl⟩
abbrev main_indices : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Decode.lean ====
abbrev S2 : Shape := ⟨1, ![2]⟩
abbrev S64x32x1024 : Shape := ⟨3, ![64, 32, 1024]⟩
abbrev S2048x65536 : Shape := ⟨2, ![2048, 65536]⟩
abbrev S32x2048 : Shape := ⟨2, ![32, 2048]⟩
abbrev S1x32x1024 : Shape := ⟨3, ![1, 32, 1024]⟩
abbrev S2048x1024 : Shape := ⟨2, ![2048, 1024]⟩
abbrev S1 : Shape := ⟨1, ![1]⟩
abbrev S32x1024 : Shape := ⟨2, ![32, 1024]⟩

abbrev nBuf : Space → Nat
  | .hbm => 4
  | .vmem => 5
  | .smem => 1
  | _ => 0

abbrev bufTy : (tb : Table) → Fin (tcTables nBuf tb) → BufTy
  | .hbm, ⟨0, _⟩ => ⟨S2, .i32⟩
  | .hbm, ⟨1, _⟩ => ⟨S64x32x1024, .i32⟩
  | .hbm, ⟨2, _⟩ => ⟨S2048x65536, .f32⟩
  | .hbm, ⟨3, _⟩ => ⟨S32x2048, .f32⟩
  | .local _ .vmem, ⟨0, _⟩ => ⟨S1x32x1024, .i32⟩
  | .local _ .vmem, ⟨1, _⟩ => ⟨S1x32x1024, .i32⟩
  | .local _ .vmem, ⟨2, _⟩ => ⟨S2048x1024, .f32⟩
  | .local _ .vmem, ⟨3, _⟩ => ⟨S2048x1024, .f32⟩
  | .local _ .vmem, ⟨4, _⟩ => ⟨S32x2048, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_6 : BitVec 32 := 0#32
  let v27 : BitVec 1 := Scalar.cmpi .ne v26 c0_i32_6
  v27

def k0_cond2 (i : grid0.Coords) : BitVec 1 :=
  let arg0 : BitVec 32 := BitVec.ofNat 32 (i 0).val
  let c0_i32_7 : BitVec 32 := 0#32
  let v28 : BitVec 1 := Scalar.cmpi .sgt arg0 c0_i32_7
  let v29 : BitVec 32 := Scalar.extui v28
  let c0_i32_8 : BitVec 32 := 0#32
  let v30 : BitVec 1 := Scalar.cmpi .ne v29 c0_i32_8
  v30

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x32x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReconstructionIdeal.lean ====
abbrev S2 : Shape := ⟨1, ![2]⟩
abbrev S64x32x1024 : Shape := ⟨3, ![64, 32, 1024]⟩
abbrev S2048x65536 : Shape := ⟨2, ![2048, 65536]⟩
abbrev S32x64x1024 : Shape := ⟨3, ![32, 64, 1024]⟩
abbrev S32x65536 : Shape := ⟨2, ![32, 65536]⟩
abbrev S2097152 : Shape := ⟨1, ![2097152]⟩
abbrev S2048 : Shape := ⟨1, ![2048]⟩
abbrev S_ : Shape := ⟨0, ![]⟩
abbrev S2048x1 : Shape := ⟨2, ![2048, 1]⟩
abbrev S65536x2048 : Shape := ⟨2, ![65536, 2048]⟩
abbrev S32x2048 : Shape := ⟨2, ![32, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2, .i32⟩
  | .hbm, ⟨1, _⟩ => ⟨S64x32x1024, .i32⟩
  | .hbm, ⟨2, _⟩ => ⟨S2048x65536, .f32⟩
  | .hbm, ⟨3, _⟩ => ⟨S64x32x1024, .f32⟩
  | .hbm, ⟨4, _⟩ => ⟨S32x64x1024, .f32⟩
  | .hbm, ⟨5, _⟩ => ⟨S32x65536, .f32⟩
  | .hbm, ⟨6, _⟩ => ⟨S2097152, .f32⟩
  | .hbm, ⟨7, _⟩ => ⟨S2048, .f32⟩
  | .hbm, ⟨8, _⟩ => ⟨S2048, .i32⟩
  | .hbm, ⟨9, _⟩ => ⟨S_, .f32⟩
  | .hbm, ⟨10, _⟩ => ⟨S2097152, .f32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S2048x1, .i32⟩
  | .hbm, ⟨19, _⟩ => ⟨S2097152, .f32⟩
  | .hbm, ⟨20, _⟩ => ⟨S32x65536, .f32⟩
  | .hbm, ⟨21, _⟩ => ⟨S65536x2048, .f32⟩
  | .hbm, ⟨22, _⟩ => ⟨S32x2048, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== EncodeKeys.lean ====
abbrev S32x2048 : Shape := ⟨2, ![32, 2048]⟩
abbrev S65536x2048 : Shape := ⟨2, ![65536, 2048]⟩
abbrev S65536 : Shape := ⟨1, ![65536]⟩
abbrev S2048 : Shape := ⟨1, ![2048]⟩
abbrev S1x2048 : Shape := ⟨2, ![1, 2048]⟩
abbrev S64x1x1024 : Shape := ⟨3, ![64, 1, 1024]⟩
abbrev S64x32x1024 : Shape := ⟨3, ![64, 32, 1024]⟩
abbrev S1024x2048 : Shape := ⟨2, ![1024, 2048]⟩
abbrev S1x1x1024 : Shape := ⟨3, ![1, 1, 1024]⟩
abbrev S1x32x1024 : Shape := ⟨3, ![1, 32, 1024]⟩
abbrev S32x1024 : Shape := ⟨2, ![32, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S65536x2048, .f32⟩
  | .hbm, ⟨2, _⟩ => ⟨S65536, .f32⟩
  | .hbm, ⟨3, _⟩ => ⟨S2048, .f32⟩
  | .hbm, ⟨4, _⟩ => ⟨S1x2048, .f32⟩
  | .hbm, ⟨5, _⟩ => ⟨S32x2048, .f32⟩
  | .hbm, ⟨6, _⟩ => ⟨S32x2048, .f32⟩
  | .hbm, ⟨7, _⟩ => ⟨S64x1x1024, .f32⟩
  | .hbm, ⟨8, _⟩ => ⟨S64x32x1024, .i32⟩
  | .local _ .vmem, ⟨0, _⟩ => ⟨S32x2048, .f32⟩
  | .local _ .vmem, ⟨1, _⟩ => ⟨S1024x2048, .f32⟩
  | .local _ .vmem, ⟨2, _⟩ => ⟨S1024x2048, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .i32⟩
  | .local _ .vmem, ⟨6, _⟩ => ⟨S1x32x1024, .i32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Encode.lean ====
abbrev S32x2048 : Shape := ⟨2, ![32, 2048]⟩
abbrev S65536x2048 : Shape := ⟨2, ![65536, 2048]⟩
abbrev S65536 : Shape := ⟨1, ![65536]⟩
abbrev S2048 : Shape := ⟨1, ![2048]⟩
abbrev S1x2048 : Shape := ⟨2, ![1, 2048]⟩
abbrev S64x1x1024 : Shape := ⟨3, ![64, 1, 1024]⟩
abbrev S64x32x1024 : Shape := ⟨3, ![64, 32, 1024]⟩
abbrev S1024x2048 : Shape := ⟨2, ![1024, 2048]⟩
abbrev S1x1x1024 : Shape := ⟨3, ![1, 1, 1024]⟩
abbrev S1x32x1024 : Shape := ⟨3, ![1, 32, 1024]⟩
abbrev S32x1024 : Shape := ⟨2, ![32, 1024]⟩
abbrev S1x1024 : Shape := ⟨2, ![1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S32x2048, .f32⟩
  | .hbm, ⟨1, _⟩ => ⟨S65536x2048, .f32⟩
  | .hbm, ⟨2, _⟩ => ⟨S65536, .f32⟩
  | .hbm, ⟨3, _⟩ => ⟨S2048, .f32⟩
  | .hbm, ⟨4, _⟩ => ⟨S1x2048, .f32⟩
  | .hbm, ⟨5, _⟩ => ⟨S32x2048, .f32⟩
  | .hbm, ⟨6, _⟩ => ⟨S32x2048, .f32⟩
  | .hbm, ⟨7, _⟩ => ⟨S64x1x1024, .f32⟩
  | .hbm, ⟨8, _⟩ => ⟨S64x32x1024, .f32⟩
  | .local _ .vmem, ⟨0, _⟩ => ⟨S32x2048, .f32⟩
  | .local _ .vmem, ⟨1, _⟩ => ⟨S1024x2048, .f32⟩
  | .local _ .vmem, ⟨2, _⟩ => ⟨S1024x2048, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActivationsIdeal.lean ====
abbrev S32x2048 : Shape := ⟨2, ![32, 2048]⟩
abbrev S65536x2048 : Shape := ⟨2, ![65536, 2048]⟩
abbrev S65536 : Shape := ⟨1, ![65536]⟩
abbrev S2048 : Shape := ⟨1, ![2048]⟩
abbrev S1x2048 : Shape := ⟨2, ![1, 2048]⟩
abbrev S2048x65536 : Shape := ⟨2, ![2048, 65536]⟩
abbrev S32x65536 : Shape := ⟨2, ![32, 65536]⟩
abbrev S1x65536 : Shape := ⟨2, ![1, 65536]⟩
abbrev S_ : Shape := ⟨0, ![]⟩
abbrev S32x64x1024 : Shape := ⟨3, ![32, 64, 1024]⟩
abbrev S64x32x1024 : Shape := ⟨3, ![64, 32, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S65536x2048, .f32⟩
  | .hbm, ⟨2, _⟩ => ⟨S65536, .f32⟩
  | .hbm, ⟨3, _⟩ => ⟨S2048, .f32⟩
  | .hbm, ⟨4, _⟩ => ⟨S1x2048, .f32⟩
  | .hbm, ⟨5, _⟩ => ⟨S32x2048, .f32⟩
  | .hbm, ⟨6, _⟩ => ⟨S32x2048, .f32⟩
  | .hbm, ⟨7, _⟩ => ⟨S2048x65536, .f32⟩
  | .hbm, ⟨8, _⟩ => ⟨S32x65536, .f32⟩
  | .hbm, ⟨9, _⟩ => ⟨S1x65536, .f32⟩
  | .hbm, ⟨10, _⟩ => ⟨S32x65536, .f32⟩
  | .hbm, ⟨11, _⟩ => ⟨S32x65536, .f32⟩
  | .hbm, ⟨12, _⟩ => ⟨S_, .f32⟩
  | .hbm, ⟨13, _⟩ => ⟨S32x65536, .f32⟩
  | .hbm, ⟨14, _⟩ => ⟨S32x65536, .f32⟩
  | .hbm, ⟨15, _⟩ => ⟨S32x64x1024, .f32⟩
  | .hbm, ⟨16, _⟩ => ⟨S64x32x1024, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Proof.Encode.lean ====
/-
  The encoding product, over the reals. A grid point takes 1024 rows of the encoder's weights and the 1024 biases that
  go with them and writes one block of the result; the blocks tile the result. Entry (t, r, q) of the result is the
  rectified value of feature 1024 t + q on row r, which is what the reference's product, laid out by feature blocks,
  holds there. One whole sum over the 2048 inputs on both sides: nothing is re-associated.
-/
module

public import proofs.«01_k».proof.Proof.Gen.EncodeIdeal.Value
public import proofs.«01_k».proof.Proof.Gen.ActivationsIdeal.Run
public import Idealize.ShloMosaic.Lib.Pointwise

@[expose] public section

noncomputable section

namespace Cert.Proof.Encode

open Cert.EncodeIdeal Cert.EncodeIdeal.Gen Cert.EncodeIdeal.Value
open Idealize.ShloMosaic Idealize.ShloMosaic.TcCoe Idealize.SL.Sem
open scoped BigOperators

/-- The feature at place `q` of block `t`. -/
abbrev feature (t : Fin 64) (q : Fin 1024) : Fin 65536 := ⟨t.val * 1024 + q.val, by have := t.isLt; have := q.isLt; omega⟩

/-- The rectified features, block by block: input rows `x` less the decoder's bias `d`, against the encoder's weights `w`
    and bias `b`. -/
def act (x : FVec Ideal S32x2048 .f32) (w : FVec Ideal S65536x2048 .f32) (b : FVec Ideal S65536 .f32)
    (d : FVec Ideal S2048 .f32) : FVec Ideal S64x32x1024 .f32 := fun i =>
  max (∑ k : Fin 2048, (x (ix2 (i 1) k) - d (ix1 k)) * w (ix2 (feature (i 0) (i 2)) k) + b (ix1 (feature (i 0) (i 2)))) 0

/-- What one grid point computes, at an index. -/
theorem pay_apply (x : Vec Ideal S32x2048 .f32) (w : Vec Ideal S1024x2048 .f32) (b : Vec Ideal S1x1x1024 .f32)
    (r : Fin 32) (q : Fin 1024) :
    k0_pay1 x w b (ix3 0 r q) = max (∑ k : Fin 2048, x (ix2 r k) * w (ix2 q k) + b (ix3 0 0 q)) 0 := by
  pointwise [k0_pay1]

/-- What the reference computes, at an index. -/
theorem reference (x : FVec Ideal S32x2048 .f32) (w : FVec Ideal S65536x2048 .f32) (b : FVec Ideal S65536 .f32)
    (d : FVec Ideal S2048 .f32) (i : S64x32x1024.Idx) : (transpose Cert.ActivationsIdeal.S64x32x1024 [1, 0, 2]
      (shapeCast Cert.ActivationsIdeal.S32x64x1024 (maximumf (addf (Host.dotGeneral Cert.ActivationsIdeal.dot_S32x2048_S2048x65536_S32x65536_1_0_0_1_n_n none
        (subf x (broadcastInDim Cert.ActivationsIdeal.S32x2048 ![0, 1] Cert.ActivationsIdeal.Facts₀.bcast_S1x2048_S32x2048_0_1
          (broadcastInDim Cert.ActivationsIdeal.S1x2048 ![1] Cert.ActivationsIdeal.Facts₀.bcast_S2048_S1x2048_1 d)))
        (transpose Cert.ActivationsIdeal.S2048x65536 [1, 0] w Cert.ActivationsIdeal.Facts₀.transposes_S65536x2048_S2048x65536_1_0))
        (broadcastInDim Cert.ActivationsIdeal.S32x65536 ![0, 1] Cert.ActivationsIdeal.Facts₀.bcast_S1x65536_S32x65536_0_1
          (broadcastInDim Cert.ActivationsIdeal.S1x65536 ![1] Cert.ActivationsIdeal.Facts₀.bcast_S65536_S1x65536_1 b)))
        (broadcastInDim Cert.ActivationsIdeal.S32x65536 ![] Cert.ActivationsIdeal.Facts₀.bcast_S_S32x65536
          (constant (F := Ideal) Cert.ActivationsIdeal.S_ .f32 0x00000000#32)))
        Cert.ActivationsIdeal.Facts₀.shapeCasts_S32x65536_S32x64x1024) Cert.ActivationsIdeal.Facts₀.transposes_S32x64x1024_S64x32x1024_1_0_2 :
      FVec Ideal S64x32x1024 .f32) i = act x w b d i := by
  unfold act
  pointwise

variable (m : (ℓ : Loc nD τ sig) → Buf (Elt Ideal) ℓ) (ρ : Dev nD → PrngReg)

/-- The four arguments as launched, and the result they make. -/
abbrev argX (c : Dev nD) : FVec Ideal S32x2048 .f32 := m ((c : Thread nD τ).loc main_arg0)
abbrev argW (c : Dev nD) : FVec Ideal S65536x2048 .f32 := m ((c : Thread nD τ).loc main_arg1)
abbrev argB (c : Dev nD) : FVec Ideal S65536 .f32 := m ((c : Thread nD τ).loc main_arg2)
abbrev argD (c : Dev nD) : FVec Ideal S2048 .f32 := m ((c : Thread nD τ).loc main_arg3)
abbrev result (c : Dev nD) : FVec Ideal S64x32x1024 .f32 := act (argX m c) (argW m c) (argB m c) (argD m c)

/-! ## The blocks -/

/-- Where the windows' blocks lie at a grid point. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- A grid point as a block number. -/
abbrev blockNo (t : Fin cfg0.N) : Fin 64 := ⟨t.val, Nat.lt_of_lt_of_eq t.isLt N_0⟩

theorem emb0 (t : Fin cfg0.N) (j : S32x2048.Idx) : ((cfg0.win 0).blk t).view.emb j = j := by
  obtain ⟨e0, e1⟩ := idx0 t
  funext a; apply Fin.ext
  match a with
  | ⟨0, _⟩ => show win0_0.index t (0 : Fin 2) * 32 + 1 * (j 0).val = (j 0).val; omega
  | ⟨1, _⟩ => show win0_0.index t (1 : Fin 2) * 2048 + 1 * (j 1).val = (j 1).val; omega

theorem emb1 (t : Fin cfg0.N) (j : S1024x2048.Idx) :
    ((cfg0.win 1).blk t).view.emb j = (ix2 (feature (blockNo t) (j 0)) (j 1) : S65536x2048.Idx) := by
  obtain ⟨e0, e1⟩ := idx1 t
  funext a; apply Fin.ext
  match a with
  | ⟨0, _⟩ => show win0_1.index t (0 : Fin 2) * 1024 + 1 * (j 0).val = t.val * 1024 + (j 0).val; omega
  | ⟨1, _⟩ => show win0_1.index t (1 : Fin 2) * 2048 + 1 * (j 1).val = (j 1).val; omega

theorem emb2 (t : Fin cfg0.N) (j : S1x1x1024.Idx) :
    ((cfg0.win 2).blk t).view.emb j = (ix3 (blockNo t) 0 (j 2) : S64x1x1024.Idx) := by
  obtain ⟨e0, e1, e2⟩ := idx2 t
  have h0 : (j 0).val < 1 := (j 0).isLt
  have h1 : (j 1).val < 1 := (j 1).isLt
  funext a; apply Fin.ext
  match a with
  | ⟨0, _⟩ => show win0_2.index t (0 : Fin 3) * 1 + 1 * (j 0).val = t.val; omega
  | ⟨1, _⟩ => show win0_2.index t (1 : Fin 3) * 1 + 1 * (j 1).val = 0; omega
  | ⟨2, _⟩ => show win0_2.index t (2 : Fin 3) * 1024 + 1 * (j 2).val = (j 2).val; omega

theorem emb3 (t : Fin cfg0.N) (j : S1x32x1024.Idx) :
    ((cfg0.win 3).blk t).view.emb j = (ix3 (blockNo t) (j 1) (j 2) : S64x32x1024.Idx) := by
  obtain ⟨e0, e1, e2⟩ := idx3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 32 + 1 * (j 1).val = (j 1).val; omega
  | ⟨2, _⟩ => show win0_3.index t (2 : Fin 3) * 1024 + 1 * (j 2).val = (j 2).val; omega

/-! ## What the region finds -/

/-- The input rows, the decoder's bias already taken off. -/
theorem entry_x (c : Dev nD) : (V m c main_v2 : FVec Ideal S32x2048 .f32) = subf (argX m c)
    (broadcastInDim S32x2048 ![0, 1] Facts₀.bcast_S1x2048_S32x2048_0_1
      (broadcastInDim S1x2048 ![1] Facts₀.bcast_S2048_S1x2048_1 (argD m c))) := by
  simp only [V, hostOps0]; after_results <;> rfl

/-- The encoder's biases, block by block. -/
theorem entry_b (c : Dev nD) : (V m c main_v3 : FVec Ideal S64x1x1024 .f32)
    = shapeCast S64x1x1024 (argB m c) Facts₀.shapeCasts_S65536_S64x1x1024 := by
  simp only [V, hostOps0]; after_results <;> rfl

theorem block_x (c : Dev nD) (t : Fin cfg0.N) (r : Fin 32) (k : Fin 2048) :
    (iblk m c 0 t : Vec Ideal S32x2048 .f32) (ix2 r k) = argX m c (ix2 r k) - argD m c (ix1 k) := by
  show (V m c main_v2 : FVec Ideal S32x2048 .f32) (((cfg0.win 0).blk t).view.emb (ix2 r k : S32x2048.Idx)) = _
  rw [emb0 t (ix2 r k), entry_x]
  pointwise

theorem block_w (c : Dev nD) (t : Fin cfg0.N) (q : Fin 1024) (k : Fin 2048) :
    (iblk m c 1 t : Vec Ideal S1024x2048 .f32) (ix2 q k) = argW m c (ix2 (feature (blockNo t) q) k) := by
  show (V m c main_arg1 : FVec Ideal S65536x2048 .f32) (((cfg0.win 1).blk t).view.emb (ix2 q k : S1024x2048.Idx)) = _
  rw [emb1 t (ix2 q k), V_main_arg1]
  rfl

theorem block_b (c : Dev nD) (t : Fin cfg0.N) (q : Fin 1024) :
    (iblk m c 2 t : Vec Ideal S1x1x1024 .f32) (ix3 0 0 q) = argB m c (ix1 (feature (blockNo t) q)) := by
  show (V m c main_v3 : FVec Ideal S64x1x1024 .f32) (((cfg0.win 2).blk t).view.emb (ix3 0 0 q : S1x1x1024.Idx)) = _
  rw [emb2 t (ix3 0 0 q), entry_b]
  pointwise

/-! ## The result -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one store is its one payload of the three blocks. -/
theorem out_eq (x : Vec Ideal S32x2048 .f32) (w : Vec Ideal S1024x2048 .f32) (b : Vec Ideal S1x1x1024 .f32) :
    out0_3 x w b = k0_pay1 x w b := by
  unfold out0_3
  rw [View.canon_unit_zero zeros3, View.ld_unit_zero zeros2, View.ld_unit_zero zeros2, View.ld_unit_zero zeros3]

/-- What a grid point computes is its block of the result. -/
theorem point (c : Dev nD) (t : Fin cfg0.N) (j : S1x32x1024.Idx) :
    k0_pay1 (iblk m c 0 t) (iblk m c 1 t) (iblk m c 2 t) j = result m c (((cfg0.win 3).blk t).view.emb j) := by
  have hj : j = (ix3 0 (j 1) (j 2) : S1x32x1024.Idx) := by
    funext a
    match a with
    | ⟨0, _⟩ => exact Subsingleton.elim (α := Fin 1) _ _
    | ⟨1, _⟩ => rfl
    | ⟨2, _⟩ => rfl
  rw [emb3 t j]
  refine (congrArg _ hj).trans ((pay_apply _ _ _ (j 1) (j 2)).trans ?_)
  show _ = max _ _
  refine congrArg₂ max (congrArg₂ (· + ·) (Finset.sum_congr rfl fun k _ => ?_) ?_) rfl
  · exact congrArg₂ (· * ·) (block_x m c t (j 1) k) (block_w m c t (j 2) k)
  · exact block_b m c t (j 2)

/-- A grid point writes its block of the result. -/
theorem flushed_eq (c : Dev nD) (t : Fin cfg0.N) :
    (dats m 0 c).flushed 3 t = ((cfg0.win 3).blk t).view.read (Elt Ideal) (result m c) := by
  rw [flushed3, out_eq]
  funext j
  exact point m c t j

/-- The blocks tile the result. -/
theorem covered (i : S64x32x1024.Idx) : ∃ t : Fin cfg0.N, (cfg0.win 3).flush t = true ∧ i ∈ ((cfg0.win 3).blk t).view.set := by
  refine ⟨⟨(i 0).val, Nat.lt_of_lt_of_eq (i 0).isLt N_0.symm⟩, flush0_3 _, ?_⟩
  have h := ((cfg0.win 3).blk ⟨(i 0).val, Nat.lt_of_lt_of_eq (i 0).isLt N_0.symm⟩).view.emb_mem_set (ix3 0 (i 1) (i 2) : S1x32x1024.Idx)
  rw [emb3 _ (ix3 0 (i 1) (i 2))] at h
  have hi : i = (ix3 (i 0) (i 1) (i 2) : S64x32x1024.Idx) := by
    funext a
    match a with
    | ⟨0, _⟩ => rfl
    | ⟨1, _⟩ => rfl
    | ⟨2, _⟩ => rfl
  rw [hi]
  exact h

theorem final (c : Dev nD) : (dats m 0 c).arrAt 3 cfg0.N = result m c :=
  (dats m 0 c).arrAt_eq_of_cover 3 (result m c) (fun t _ => flushed_eq m c t) covered

/-- The kernel's run, its result named. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Proof.Encode

end
-- ==== Proof.Decode.lean ====
/-
  The decoding product, over the reals. A grid point takes 1024 features — their keys and their columns of the decoder's
  weights —, keeps the values whose key passes the threshold (or equals it at a place not after the tie position), a
  value being the float that its key spells, and adds their product into the one result block, which the first point sets and the last writes back. The
  result is the sum over the 64 points of sums over 1024 features; the reference's is one sum over the 65536 features,
  cut into the same tiles (addition over the reals is associative).
-/
module

public import proofs.«01_k».proof.Proof.Gen.DecodeIdeal.Value
public import proofs.«01_k».proof.Proof.Gen.ReconstructionIdeal.Run
public import Idealize.ShloMosaic.Lib.Pointwise

@[expose] public section

noncomputable section

namespace Cert.Proof.Decode

open Cert.DecodeIdeal Cert.DecodeIdeal.Gen Cert.DecodeIdeal.Value
open Idealize.ShloMosaic Idealize.ShloMosaic.TcCoe Idealize.SL.Sem
open scoped BigOperators

/-- The feature at place `q` of block `t`. -/
abbrev feature (t : Fin 64) (q : Fin 1024) : Fin 65536 := ⟨t.val * 1024 + q.val, by have := t.isLt; have := q.isLt; omega⟩

/-- The flat place of feature `q` of block `t` on row `r`, as a word. -/
def place (t : Fin 64) (r : Fin 32) (q : Fin 1024) : BitVec 32 := BitVec.ofNat 32 (r.val * 65536 + (t.val * 1024 + q.val))

/-- The same place as an index. -/
abbrev flatPlace (t : Fin 64) (r : Fin 32) (q : Fin 1024) : Fin 2097152 :=
  ⟨r.val * 65536 + (t.val * 1024 + q.val), by have := t.isLt; have := q.isLt; have := r.isLt; omega⟩

/-- The float that a key spells, kept if the key passes the threshold `p`, or equals it at a place not after `u`; zero otherwise. -/
def kept (p u key place : BitVec 32) : Ideal .f32 :=
  Scalar.select (IntOp.ori (IntOp.cmpi .sgt key p) (IntOp.andi (IntOp.cmpi .eq key p) (IntOp.cmpi .sle place u)))
    (FloatOps.ofBits .f32 key) 0

/-- A selection of a product or of zero is the product of the selection. -/
theorem select_mul (c : BitVec 1) (x y : Ideal .f32) :
    (Scalar.select c (x * y) 0 : Ideal .f32) = (Scalar.select c x 0 : Ideal .f32) * y := by
  unfold Scalar.select
  split
  · rfl
  · exact (zero_mul (M₀ := EReal) y).symm

/-- The kernel's word for a place: a row's offset, a feature's, and its block's, added in words. -/
theorem place_word (t : Fin 64) (r : Fin 32) (q : Fin 1024) :
    IntOp.addi (IntOp.addi (IntOp.muli (BitVec.ofNat 32 r.val) 65536#32) (BitVec.ofNat 32 q.val))
      (Scalar.muli (BitVec.ofNat 32 t.val) 1024#32) = place t r q := by
  have hr := r.isLt
  have ht := t.isLt
  have hq := q.isLt
  unfold place
  simp only [IntOp.addi, IntOp.muli, Scalar.muli]
  apply BitVec.eq_of_toNat_eq
  simp only [BitVec.toNat_add, BitVec.toNat_mul, BitVec.toNat_ofNat]
  omega

/-- One block's share of the result. -/
def share (p u : BitVec 32) (a : IVec S64x32x1024 32) (w : FVec Ideal S2048x65536 .f32)
    (t : Fin 64) (i : S32x2048.Idx) : Ideal .f32 :=
  ∑ q : Fin 1024, kept p u (a (ix3 t (i 0) q)) (place t (i 0) q) * w (ix2 (i 1) (feature t q))

/-- What one grid point computes, at an index. -/
theorem pay_apply (i : grid0.Coords) (p u : BitVec 32) (a : Vec Ideal S1x32x1024 .i32)
    (w : Vec Ideal S2048x1024 .f32) (r : Fin 32) (n : Fin 2048) :
    k0_pay1 (F := Ideal) i p u a w (ix2 r n)
      = ∑ q : Fin 1024, kept p u (a (ix3 0 r q)) (place (i 0) r q) * w (ix2 n q) := by
  pointwise [k0_pay1]
  refine Finset.sum_congr rfl fun q _ => ?_
  rw [select_mul, place_word (i 0) r q]
  rfl

/-- The reference's one product, of any flat array of features laid out in rows, at an index: a sum over the blocks. -/
theorem reference (y : FVec Ideal Cert.ReconstructionIdeal.S2097152 .f32)
    (w : FVec Ideal S2048x65536 .f32) (i : S32x2048.Idx) :
    (Host.dotGeneral Cert.ReconstructionIdeal.dot_S32x65536_S65536x2048_S32x2048_1_0_0_1_n_n none
      (shapeCast Cert.ReconstructionIdeal.S32x65536 y Cert.ReconstructionIdeal.Facts₀.shapeCasts_S2097152_S32x65536)
      (transpose Cert.ReconstructionIdeal.S65536x2048 [1, 0] w Cert.ReconstructionIdeal.Facts₀.transposes_S2048x65536_S65536x2048_1_0) :
      FVec Ideal S32x2048 .f32) i
      = ∑ t : Fin 64, ∑ q : Fin 1024, y (ix1 (flatPlace t (i 0) q)) * w (ix2 (i 1) (feature t q)) := by
  pointwise
  rw [Fin.sum_univ_tiles 64 1024 rfl]

variable (m : (ℓ : Loc nD τ sig) → Buf (Elt Ideal) ℓ) (ρ : Dev nD → PrngReg)

/-- The three arguments as launched, and the result they make. -/
abbrev argS (c : Dev nD) : IVec S2 32 := m ((c : Thread nD τ).loc main_arg0)
abbrev argA (c : Dev nD) : IVec S64x32x1024 32 := m ((c : Thread nD τ).loc main_arg1)
abbrev argW (c : Dev nD) : FVec Ideal S2048x65536 .f32 := m ((c : Thread nD τ).loc main_arg2)
abbrev shareOf (c : Dev nD) (t : Fin 64) (i : S32x2048.Idx) : Ideal .f32 :=
  share (argS m c (ix1 0)) (argS m c (ix1 1)) (argA m c) (argW m c) t i
abbrev result (c : Dev nD) : FVec Ideal S32x2048 .f32 := fun i => ∑ t : Fin 64, shareOf m c t i

/-! ## The two cases of the body -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The first point stores the product. -/
theorem out_A (c : Dev nD) (i : grid0.Coords) (a1 : Memref sig .tc .smem S2 .i32) (h1 : a1.IsWhole)
    (a2 : Memref sig .tc .vmem S1x32x1024 .i32) (h2 : a2.IsWhole) (a3 : Memref sig .tc .vmem S2048x1024 .f32) (h3 : a3.IsWhole)
    (a4 : Memref sig .tc .vmem S32x2048 .f32) (h4 : a4.IsWhole)
    (hc0 : cond0_0 i) (hc1 : ¬cond0_1 i) (x0 : Vec Ideal S2 .i32) (x1 : Vec Ideal S1x32x1024 .i32)
    (x2 : Vec Ideal S2048x1024 .f32) :
    out0_A_3 c i a1 h1 a2 h2 a3 h3 a4 h4 hc0 hc1 x0 x1 x2 = k0_pay1 i (x0 (ix1 0)) (x0 (ix1 1)) x1 x2 := by
  unfold out0_A_3
  rw [View.read_writes_eq_canon _ _ _ (cover0_A_3 c i a1 h1 a2 h2 a3 h3 a4 h4 hc0 hc1 x0 x1 x2)]
  unfold kernelRun0_A
  dsimp only
  rw [View.canon_unit_zero zeros2]
  sl_unfold_words
  simp only [View.readAt_eq_ld, h1.read_unread, h2.read_unread, h3.read_unread,
    View.ld_unit_zero (S := S1x32x1024) zeros3, View.ld_unit_zero (S := S2048x1024) zeros2]
  exact congrArg₂ (fun p u => k0_pay1 i p u x1 x2) (congrArg x0 (funext fun a => by match a with | ⟨0, _⟩ => rfl))
    (congrArg x0 (funext fun a => by match a with | ⟨0, _⟩ => rfl))

/-- Every later point adds the product to what the point before left. -/
theorem out_B (c : Dev nD) (i : grid0.Coords) (a1 : Memref sig .tc .smem S2 .i32) (h1 : a1.IsWhole)
    (a2 : Memref sig .tc .vmem S1x32x1024 .i32) (h2 : a2.IsWhole) (a3 : Memref sig .tc .vmem S2048x1024 .f32) (h3 : a3.IsWhole)
    (a4 : Memref sig .tc .vmem S32x2048 .f32) (h4 : a4.IsWhole)
    (hc0 : ¬cond0_0 i) (hc1 : cond0_1 i) (x0 : Vec Ideal S2 .i32) (x1 : Vec Ideal S1x32x1024 .i32)
    (x2 : Vec Ideal S2048x1024 .f32) (xo : Vec Ideal S32x2048 .f32) :
    out0_B_3 c i a1 h1 a2 h2 a3 h3 a4 h4 hc0 hc1 x0 x1 x2 xo
      = addf xo (k0_pay1 i (x0 (ix1 0)) (x0 (ix1 1)) x1 x2) := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero zeros2]
  unfold k0_pay2
  sl_unfold_words
  simp only [View.readAt_eq_ld, h1.read_unread, h2.read_unread, h3.read_unread, h4.read_unread,
    View.ld_unit_zero (S := S1x32x1024) zeros3, View.ld_unit_zero (S := S2048x1024) zeros2,
    View.ld_unit_zero (S := S32x2048) zeros2, shapeCast_self]
  refine congrArg (addf (F := Ideal) (s := S32x2048) (φ := .f32) xo) ?_
  exact congrArg₂ (fun p u => k0_pay1 i p u x1 x2) (congrArg x0 (funext fun a => by match a with | ⟨0, _⟩ => rfl))
    (congrArg x0 (funext fun a => by match a with | ⟨0, _⟩ => rfl))

/-! ## The blocks -/

/-- Where the windows' blocks lie at a grid point. -/
theorem idx0 : ∀ t : Fin cfg0.N, win0_0.index t (0 : Fin 1) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- A grid point as a block number: its one coordinate. -/
abbrev blockNo (t : Fin cfg0.N) : Fin 64 := ⟨t.val, Nat.lt_of_lt_of_eq t.isLt N_0⟩

theorem coord (t : Fin cfg0.N) : (grid0.coords t) 0 = blockNo t := by
  apply Fin.ext
  have h : (grid0.coords t 0).val = t.val / 1 % 64 := Pipeline.Grid.coords_val t 0 (by decide) rfl
  have ht : t.val < 64 := Nat.lt_of_lt_of_eq t.isLt N_0
  show (grid0.coords t 0).val = t.val
  rw [h]; omega

theorem emb0 (t : Fin cfg0.N) (j : S2.Idx) : ((cfg0.win 0).blk t).view.emb j = j := by
  have e0 := idx0 t
  funext a; apply Fin.ext
  match a with
  | ⟨0, _⟩ => show win0_0.index t (0 : Fin 1) * 2 + 1 * (j 0).val = (j 0).val; omega

theorem emb1 (t : Fin cfg0.N) (j : S1x32x1024.Idx) :
    ((cfg0.win 1).blk t).view.emb j = (ix3 (blockNo t) (j 1) (j 2) : S64x32x1024.Idx) := by
  obtain ⟨e0, e1, e2⟩ := idx1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 32 + 1 * (j 1).val = (j 1).val; omega
  | ⟨2, _⟩ => show win0_1.index t (2 : Fin 3) * 1024 + 1 * (j 2).val = (j 2).val; omega

theorem emb2 (t : Fin cfg0.N) (j : S2048x1024.Idx) :
    ((cfg0.win 2).blk t).view.emb j = (ix2 (j 0) (feature (blockNo t) (j 1)) : S2048x65536.Idx) := by
  obtain ⟨e0, e1⟩ := idx2 t
  funext a; apply Fin.ext
  match a with
  | ⟨0, _⟩ => show win0_2.index t (0 : Fin 2) * 2048 + 1 * (j 0).val = (j 0).val; omega
  | ⟨1, _⟩ => show win0_2.index t (1 : Fin 2) * 1024 + 1 * (j 1).val = t.val * 1024 + (j 1).val; omega

theorem emb3 (t : Fin cfg0.N) (j : S32x2048.Idx) : ((cfg0.win 3).blk t).view.emb j = j := by
  obtain ⟨e0, e1⟩ := idx3 t
  funext a; apply Fin.ext
  match a with
  | ⟨0, _⟩ => show win0_3.index t (0 : Fin 2) * 32 + 1 * (j 0).val = (j 0).val; omega
  | ⟨1, _⟩ => show win0_3.index t (1 : Fin 2) * 2048 + 1 * (j 1).val = (j 1).val; omega

theorem block_s (c : Dev nD) (t : Fin cfg0.N) (k : Fin 2) : (iblk m c 0 t : Vec Ideal S2 .i32) (ix1 k) = argS m c (ix1 k) := by
  show (V m c main_arg0 : IVec S2 32) (((cfg0.win 0).blk t).view.emb (ix1 k : S2.Idx)) = _
  rw [emb0 t (ix1 k), V_main_arg0]

theorem block_a (c : Dev nD) (t : Fin cfg0.N) (r : Fin 32) (q : Fin 1024) :
    (iblk m c 1 t : Vec Ideal S1x32x1024 .i32) (ix3 0 r q) = argA m c (ix3 (blockNo t) r q) := by
  show (V m c main_arg1 : IVec S64x32x1024 32) (((cfg0.win 1).blk t).view.emb (ix3 0 r q : S1x32x1024.Idx)) = _
  rw [emb1 t (ix3 0 r q), V_main_arg1]
  rfl

theorem block_w (c : Dev nD) (t : Fin cfg0.N) (n : Fin 2048) (q : Fin 1024) :
    (iblk m c 2 t : Vec Ideal S2048x1024 .f32) (ix2 n q) = argW m c (ix2 n (feature (blockNo t) q)) := by
  show (V m c main_arg2 : FVec Ideal S2048x65536 .f32) (((cfg0.win 2).blk t).view.emb (ix2 n q : S2048x1024.Idx)) = _
  rw [emb2 t (ix2 n q), V_main_arg2]
  rfl

/-- What a grid point's product is: its block's share. -/
theorem point (c : Dev nD) (t : Fin cfg0.N) :
    k0_pay1 (grid0.coords t) ((iblk m c 0 t : Vec Ideal S2 .i32) (ix1 0)) ((iblk m c 0 t : Vec Ideal S2 .i32) (ix1 1))
      (iblk m c 1 t) (iblk m c 2 t) = shareOf m c (blockNo t) := by
  funext j
  have hj : j = (ix2 (j 0) (j 1) : S32x2048.Idx) := by
    funext a
    match a with
    | ⟨0, _⟩ => rfl
    | ⟨1, _⟩ => rfl
  refine (congrArg _ hj).trans ((pay_apply _ _ _ _ _ (j 0) (j 1)).trans ?_)
  refine Finset.sum_congr rfl fun q _ => ?_
  rw [block_s, block_s, coord]
  exact congrArg₂ (· * ·) (congrArg (kept _ _ · _) (block_a m c t (j 0) q)) (block_w m c t (j 1) q)

/-! ## The result -/

/-- After point `n` the result block holds the shares of the blocks up to `n`. -/
theorem outsAt_eq (c : Dev nD) (i : S32x2048.Idx) : ∀ (n : ℕ) (h : n < cfg0.N),
    outsAt0 m c n h i = ∑ t : Fin (n + 1), shareOf m c ⟨t.val, by have : cfg0.N = 64 := N_0; have := t.isLt; omega⟩ i
  | 0, h => by
    rw [outsAt0_A m c ⟨0, h⟩ rfl (Nat.not_succ_le_zero 0), out_A, point]
    exact (Fin.sum_univ_one fun t : Fin 1 => shareOf m c ⟨t.val, by have := t.isLt; omega⟩ i).symm
  | n + 1, h => by
    have hN : cfg0.N = 64 := N_0
    rw [outsAt0_B m c ⟨n + 1, h⟩ (by show ¬(n + 1) % 64 = 0; omega) (Nat.succ_le_succ (Nat.zero_le n)), out_B, point]
    refine Eq.trans ?_ (Fin.sum_univ_castSucc fun t : Fin (n + 1 + 1) =>
      shareOf m c ⟨t.val, by have := t.isLt; omega⟩ i).symm
    show outsAt0 m c n _ i + _ = _
    rw [outsAt_eq c i n]
    rfl

/-- The one point that writes back, the last, writes the result. -/
theorem flushed_eq (c : Dev nD) (t : Fin cfg0.N) (hf : (cfg0.win 3).flush t = true) :
    (dats m 0 c).flushed 3 t = ((cfg0.win 3).blk t).view.read (Elt Ideal) (result m c) := by
  have hN : cfg0.N = 64 := N_0
  have h63 : t.val = 63 := by have := (flush0_3 t).mp hf; have := t.isLt; omega
  rw [flushed3]
  funext j
  show outsAt0 m c t.val t.isLt j = result m c (((cfg0.win 3).blk t).view.emb j)
  rw [emb3 t j, outsAt_eq]
  obtain ⟨n, hn⟩ := t
  obtain rfl : n = 63 := h63
  rfl

/-- Its block is the whole result. -/
theorem covered (i : S32x2048.Idx) : ∃ t : Fin cfg0.N, (cfg0.win 3).flush t = true ∧ i ∈ ((cfg0.win 3).blk t).view.set := by
  refine ⟨⟨63, Nat.lt_of_lt_of_eq (by decide : 63 < 64) N_0.symm⟩, (flush0_3 _).mpr rfl, ?_⟩
  have h := ((cfg0.win 3).blk ⟨63, Nat.lt_of_lt_of_eq (by decide : 63 < 64) N_0.symm⟩).view.emb_mem_set i
  rwa [emb3 _ i] at h

theorem final (c : Dev nD) : (dats m 0 c).arrAt 3 cfg0.N = result m c :=
  (dats m 0 c).arrAt_eq_of_cover 3 (result m c) (fun t hf => flushed_eq m c t hf) covered

/-- The kernel's run, its result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Proof.Decode

end
-- ==== Proof.Rank.lean ====
/-
  The last of the `K` greatest, on natural keys. `N` keys are ranked greatest first and, among equal keys, in the order of
  their positions. `thr` is the greatest value that at least `K` keys reach, `need` how many keys equal to it are still
  wanted once all greater keys are taken, and `pos` the position of the last one of those. A search that bisects on the
  value and then on the position finds these two numbers; a sort has the same entry at index `K - 1`.
-/
module

public import Mathlib.Algebra.BigOperators.Fin
public import Mathlib.Order.Interval.Finset.Fin
public import Mathlib.Data.Nat.Find
public import Mathlib.Tactic.FinCases
public import Idealize.ShloMosaic.Lib.SortPrefix

@[expose] public section

noncomputable section

namespace Cert.Proof.Rank

open Idealize.ShloMosaic

/-- The greatest key a search has to reckon with: one below the greatest 31-bit number. -/
abbrev top : ℕ := 2147483646

section Defs

variable {N : ℕ} (key : Fin N → ℕ) (K : ℕ)

/-- How many keys are at least `x`. -/
def atLeast (x : ℕ) : ℕ := (Finset.univ.filter fun n => x ≤ key n).card

/-- The greatest value that at least `K` keys reach. -/
def thr : ℕ := Nat.findGreatest (fun x => K ≤ atLeast key x) top

/-- How many of the keys equal to `thr` belong to the `K` greatest. -/
def need : ℕ := K - atLeast key (thr key K + 1)

/-- How many keys equal to `thr` lie at or before position `u`. -/
def tied (u : ℕ) : ℕ := (Finset.univ.filter fun n => key n = thr key K ∧ n.val ≤ u).card

open Classical in
/-- The first position by which enough keys equal to `thr` have been met. -/
def pos : ℕ := if h : ∃ u, need key K ≤ tied key K u then Nat.find h else 0

end Defs

variable {N : ℕ} {key : Fin N → ℕ} {K : ℕ}

theorem atLeast_anti {x y : ℕ} (h : x ≤ y) : atLeast key y ≤ atLeast key x :=
  Finset.card_le_card fun n hn => by
    simp only [Finset.mem_filter, Finset.mem_univ, true_and] at hn ⊢; omega

theorem atLeast_le (x : ℕ) : atLeast key x ≤ N := by
  have h := Finset.card_filter_le (Finset.univ : Finset (Fin N)) fun n => x ≤ key n
  simpa [atLeast] using h

theorem tied_le (u : ℕ) : tied key K u ≤ N := by
  have h := Finset.card_filter_le (Finset.univ : Finset (Fin N)) fun n => key n = thr key K ∧ n.val ≤ u
  simpa [tied] using h

/-- A value reached by some key is reached by a key. -/
theorem exists_of_atLeast {x : ℕ} (h : 0 < atLeast key x) : ∃ n, x ≤ key n := by
  obtain ⟨n, hn⟩ := Finset.card_pos.mp h
  exact ⟨n, (Finset.mem_filter.mp hn).2⟩

variable (hKN : K ≤ N) (hK : 0 < K) (htop : ∀ n, key n ≤ top)
include hKN hK htop

/-- A value is reached by `K` keys exactly when it does not exceed `thr`. -/
theorem atLeast_iff (x : ℕ) : K ≤ atLeast key x ↔ x ≤ thr key K := by
  constructor
  · intro h
    obtain ⟨n, hn⟩ := exists_of_atLeast (lt_of_lt_of_le hK h)
    exact Nat.le_findGreatest (hn.trans (htop n)) h
  · intro h
    have h0 : K ≤ atLeast key 0 := by simpa [atLeast] using hKN
    have hs : K ≤ atLeast key (thr key K) :=
      Nat.findGreatest_spec (P := fun x => K ≤ atLeast key x) (Nat.zero_le _) h0
    exact hs.trans (atLeast_anti h)

theorem thr_le : thr key K ≤ top := Nat.findGreatest_le _

/-- Fewer than `K` keys exceed `thr`. -/
theorem above_lt : atLeast key (thr key K + 1) < K := by
  by_contra h
  have := (atLeast_iff hKN hK htop _).mp (not_lt.mp h)
  omega

theorem need_pos : 0 < need key K := by
  have := above_lt hKN hK htop; unfold need; omega

/-- The keys that reach `thr` are the greater ones and the equal ones. -/
theorem tied_all : need key K ≤ tied key K (N - 1) := by
  have hT := (atLeast_iff hKN hK htop (thr key K)).mpr le_rfl
  have hsub : atLeast key (thr key K) ≤ atLeast key (thr key K + 1) + tied key K (N - 1) := by
    unfold atLeast tied
    refine (Finset.card_le_card fun n hn => ?_).trans (Finset.card_union_le _ _)
    have hlt := n.isLt
    simp only [Finset.mem_union, Finset.mem_filter, Finset.mem_univ, true_and] at hn ⊢
    omega
  unfold need; omega

theorem tied_mono {u v : ℕ} (h : u ≤ v) : tied key K u ≤ tied key K v :=
  Finset.card_le_card fun n hn => by
    simp only [Finset.mem_filter, Finset.mem_univ, true_and] at hn ⊢; exact ⟨hn.1, hn.2.trans h⟩

/-- Enough keys equal to `thr` lie at or before `u` exactly when `pos` does. -/
theorem tied_iff (u : ℕ) : need key K ≤ tied key K u ↔ pos key K ≤ u := by
  classical
  have hne : ∃ u, need key K ≤ tied key K u := ⟨N - 1, tied_all hKN hK htop⟩
  have hpos : pos key K = Nat.find hne := by classical (unfold pos; rw [dif_pos hne])
  rw [hpos]
  constructor
  · intro h; exact Nat.find_min' hne h
  · intro h; exact (Nat.find_spec hne).trans (tied_mono hKN hK htop h)

theorem pos_lt : pos key K < N := by
  have := (tied_iff hKN hK htop (N - 1)).mp (tied_all hKN hK htop)
  omega

/-- `pos` as a position. -/
def posFin : Fin N := ⟨pos key K, pos_lt hKN hK htop⟩

/-- Up to `pos` there is one more such key than strictly before it: the key at `pos` is one. -/
theorem tied_split : (∀ n, key n = thr key K → n.val ≠ pos key K) →
    ∀ n : Fin N, key n = thr key K ∧ n.val ≤ pos key K → key n = thr key K ∧ n.val < pos key K := by
  intro h n hn
  exact ⟨hn.1, lt_of_le_of_ne hn.2 (h n hn.1)⟩

/-- The number of such keys strictly before `pos` is one too few. -/
theorem tied_before :
    (Finset.univ.filter fun n : Fin N => key n = thr key K ∧ n.val < pos key K).card < need key K := by
  by_cases h0 : pos key K = 0
  · rw [h0]; simpa using need_pos hKN hK htop
  · by_contra hc
    have hle : need key K ≤ tied key K (pos key K - 1) := by
      refine (not_lt.mp hc).trans (Finset.card_le_card fun n hn => ?_)
      simp only [Finset.mem_filter, Finset.mem_univ, true_and] at hn ⊢
      omega
    have := (tied_iff hKN hK htop _).mp hle
    omega

/-- The key at `pos` is `thr`. -/
theorem key_pos : key (posFin hKN hK htop) = thr key K := by
  by_contra h
  have hb := tied_before hKN hK htop
  have hp := (tied_iff hKN hK htop (pos key K)).mpr le_rfl
  have : tied key K (pos key K) ≤ (Finset.univ.filter fun n : Fin N => key n = thr key K ∧ n.val < pos key K).card := by
    refine Finset.card_le_card fun n hn => ?_
    simp only [Finset.mem_filter, Finset.mem_univ, true_and] at hn ⊢
    refine ⟨hn.1, lt_of_le_of_ne hn.2 fun e => h ?_⟩
    rw [← hn.1]; congr 1; exact Fin.ext e.symm
  omega

/-- Position `a` comes before position `b`: its key is greater, or equal and it is the earlier. -/
def before (key : Fin N → ℕ) (a b : Fin N) : Bool := decide (key b < key a) || (decide (key a = key b) && decide (a < b))

omit hKN hK htop in
theorem before_total (key : Fin N → ℕ) : StrictTotalBefore (before key) :=
  StrictTotalBefore.of_key_then_position (fun a b => decide (b < a)) key (fun a => by simp)
    (fun a b c hab hbc => by simp only [decide_eq_true_eq] at *; omega)
    (fun a b => by simp only [decide_eq_true_eq]; omega)

/-- Exactly `K - 1` positions come before `pos`. -/
theorem card_before : (Finset.univ.filter fun n => before key n (posFin hKN hK htop) = true).card + 1 = K := by
  have hk := key_pos hKN hK htop
  have hb := tied_before hKN hK htop
  have hp := (tied_iff hKN hK htop (pos key K)).mpr le_rfl
  have ha := above_lt hKN hK htop
  have h1 : tied key K (pos key K) ≤ (Finset.univ.filter fun n : Fin N => key n = thr key K ∧ n.val < pos key K).card + 1 := by
    unfold tied
    rw [show (1 : ℕ) = ({posFin hKN hK htop} : Finset (Fin N)).card from rfl]
    refine (Finset.card_le_card fun n hn => ?_).trans (Finset.card_union_le _ _)
    simp only [Finset.mem_union, Finset.mem_filter, Finset.mem_univ, true_and, Finset.mem_singleton] at hn ⊢
    rcases Nat.lt_or_ge n.val (pos key K) with h | h
    · exact Or.inl ⟨hn.1, h⟩
    · exact Or.inr (Fin.ext (le_antisymm hn.2 h))
  have h2 : (Finset.univ.filter fun n => before key n (posFin hKN hK htop) = true).card
      = atLeast key (thr key K + 1) + (Finset.univ.filter fun n : Fin N => key n = thr key K ∧ n.val < pos key K).card := by
    unfold atLeast
    rw [← Finset.card_union_of_disjoint]
    · congr 1
      ext n
      simp only [before, hk, Finset.mem_union, Finset.mem_filter, Finset.mem_univ, true_and, Bool.or_eq_true,
        Bool.and_eq_true, decide_eq_true_eq, Fin.lt_def]
      rfl
    · rw [Finset.disjoint_left]
      intro n hn hn'
      simp only [Finset.mem_filter, Finset.mem_univ, true_and] at hn hn'
      omega
  unfold need at hb hp
  omega

omit hKN hK htop in
/-- Of two entries of a sort, the one at the lower index comes before the other. -/
theorem sortedFrom_iff (B : Fin N → Fin N → Bool) (hB : StrictTotalBefore B) (a j : Fin N) :
    B (sortedFrom B a) (sortedFrom B j) = true ↔ a < j := by
  have hinv : ∀ a b : Fin N, a < b → B (sortedFrom B b) (sortedFrom B a) = false := by
    intro a b hab
    exact sortedFrom_noInversion B B (fun a b h => hB.asymm a b h) (fun _ _ h => h) hB.negTrans a b hab
  constructor
  · intro hh
    by_contra hc
    rcases lt_or_eq_of_le (not_lt.mp hc) with h' | h'
    · rw [hinv j a h'] at hh; exact absurd hh (by decide)
    · subst h'; rw [hB.irrefl] at hh; exact absurd hh (by decide)
  · intro hh
    rcases hB.total (sortedFrom B a) (sortedFrom B j) (fun e => absurd (sortedFrom_injective B e) (ne_of_lt hh)) with h' | h'
    · exact h'
    · rw [hinv a j hh] at h'; exact absurd h' (by decide)

omit hKN hK htop in
/-- The entry of a sort with `i` entries before it is the sort's entry at index `i`. -/
theorem sortedFrom_of_card (B : Fin N → Fin N → Bool) (hB : StrictTotalBefore B) (p : Fin N) (i : Fin N)
    (h : (Finset.univ.filter fun n => B n p = true).card = i.val) : sortedFrom B i = p := by
  classical
  obtain ⟨j, rfl⟩ := sortedFrom_surjective B p
  have hiff : ∀ a : Fin N, B (sortedFrom B a) (sortedFrom B j) = true ↔ a < j := fun a => sortedFrom_iff B hB a j
  have hbij : (Finset.univ.filter fun n => B n (sortedFrom B j) = true) = (Finset.univ.filter fun a : Fin N => a < j).image (sortedFrom B) := by
    ext n
    simp only [Finset.mem_filter, Finset.mem_univ, true_and, Finset.mem_image]
    constructor
    · intro hn
      obtain ⟨a, rfl⟩ := sortedFrom_surjective B n
      exact ⟨a, (hiff a).mp hn, rfl⟩
    · rintro ⟨a, ha, rfl⟩
      exact (hiff a).mpr ha
  rw [hbij, Finset.card_image_of_injective _ (sortedFrom_injective B)] at h
  have hc : (Finset.univ.filter fun a : Fin N => a < j).card = j.val := by
    rw [Finset.filter_gt_eq_Iio]; exact Fin.card_Iio j
  rw [hc] at h
  exact congrArg _ (Fin.ext h.symm)

/-- The sort's entry at index `K - 1` is the one at `pos`. -/
theorem sortedFrom_before (i : Fin N) (hi : i.val + 1 = K) : sortedFrom (before key) i = posFin hKN hK htop :=
  sortedFrom_of_card _ (before_total key) _ i (by have := card_before hKN hK htop; omega)

/-- The first `K` entries of the sort are the positions whose key exceeds `thr`, or equals it not after `pos`. -/
theorem first_iff (n : Fin N) : (∃ j : Fin N, j.val < K ∧ sortedFrom (before key) j = n) ↔
    thr key K < key n ∨ (key n = thr key K ∧ n.val ≤ pos key K) := by
  have hk := key_pos hKN hK htop
  have hl : sortedFrom (before key) ⟨K - 1, by omega⟩ = posFin hKN hK htop :=
    sortedFrom_before hKN hK htop ⟨K - 1, by omega⟩ (by show K - 1 + 1 = K; omega)
  obtain ⟨a, rfl⟩ := sortedFrom_surjective (before key) n
  have h1 : (∃ j : Fin N, j.val < K ∧ sortedFrom (before key) j = sortedFrom (before key) a) ↔ a.val < K :=
    ⟨fun ⟨j, hj, e⟩ => sortedFrom_injective _ e ▸ hj, fun h => ⟨a, h, rfl⟩⟩
  have h2 := sortedFrom_iff _ (before_total key) a ⟨K - 1, by omega⟩
  rw [hl] at h2
  rw [h1]
  by_cases e : a.val = K - 1
  · have ha : a = ⟨K - 1, by omega⟩ := Fin.ext e
    refine iff_of_true (by omega) (.inr ?_)
    rw [ha, hl]
    exact ⟨hk, le_rfl⟩
  · have hne : (sortedFrom (before key) a).val ≠ pos key K := fun h =>
      e (congrArg Fin.val (sortedFrom_injective (before key) ((Fin.ext h : sortedFrom (before key) a = posFin hKN hK htop).trans hl.symm)))
    have h3 : a.val < K ↔ before key (sortedFrom (before key) a) (posFin hKN hK htop) = true :=
      Iff.trans (by rw [Fin.lt_def]; show a.val < K ↔ a.val < K - 1; omega) h2.symm
    rw [h3]
    simp only [before, hk, Bool.or_eq_true, Bool.and_eq_true, decide_eq_true_eq, Fin.lt_def]
    show _ ∨ (_ ∧ _ < pos key K) ↔ _
    omega

end Cert.Proof.Rank

end
-- ==== Proof.Order.lean ====
/-
  A stable sort by a key alone and the order "greater key first, then lower position": the same permutation. So the entry at
  place `K - 1` of a descending stable sort of 32-bit words, and its position, are the ones `Rank` speaks of.
-/
module

public import proofs.«01_k».proof.Proof.Rank
public import Idealize.ShloMosaic.Lib.PlanTiles.StableSort
public import Idealize.ShloMosaic.Lib.WordCmp

@[expose] public section

noncomputable section

namespace Cert.Proof.Rank

open Idealize.ShloMosaic

variable {N : ℕ} (key : Fin N → ℕ)

/-- Sorting stably by the key alone is sorting by the key and then the position. -/
theorem sortedFrom_stable : sortedFrom (fun a b => decide (key b < key a)) = sortedFrom (before key) := by
  have hs := PlanTiles.pairwise_stableSort_lex key (· < ·) (List.finRange N) (List.pairwise_lt_finRange N)
  have h : sortPositions N (fun a b => decide (key b < key a)) = sortPositions N (before key) :=
    (before_total key).eq_stableSort_of_sorted (perm_stableSort _ _) (hs.imp fun {a b} hab => by
      unfold before
      rcases hab with h1 | ⟨h1, h2⟩
      · simp only [Bool.or_eq_false_iff, Bool.and_eq_false_iff, decide_eq_false_iff_not]
        omega
      · simp only [Bool.or_eq_false_iff, Bool.and_eq_false_iff, decide_eq_false_iff_not]
        exact ⟨by omega, .inr (by have : a.val < b.val := h2; intro h3; have : b.val < a.val := h3; omega)⟩)
  funext i
  unfold sortedFrom
  rw [List.get_of_eq h]
  rfl

/-- A signed comparison of words below 2^31 compares their values. -/
theorem sgt_beq (a b : BitVec 32) (ha : a.toNat < 2147483648) (hb : b.toNat < 2147483648) :
    (IntOp.cmpi .sgt a b == 1#1) = decide (b.toNat < a.toNat) := by
  have h : b.slt a = decide (b.toNat < a.toNat) := by
    rw [Bool.eq_iff_iff, decide_eq_true_eq, BitVec.slt_iff_toInt_lt, BitVec.toInt_eq_toNat_cond, BitVec.toInt_eq_toNat_cond]
    omega
  simp only [IntOp.cmpi, h]
  cases decide (b.toNat < a.toNat) <;> rfl

section

variable {α β : Type} (gt : α → α → BitVec 1) (x : (⟨1, ![N]⟩ : Shape).Idx → α) (y : (⟨1, ![N]⟩ : Shape).Idx → β)
  (hgt : ∀ a b, (gt (x (.ofFin a)) (x (.ofFin b)) == 1#1) = decide (key b < key a))
include hgt

/-- The sort inside a top-k, its comparison that of the keys: place `r` holds the entry at the position the order gives. -/
theorem sort_read (r : Fin N) :
    (Host.sort2 ⟨1, ![N]⟩ 0 (fun l r => gt l.1 r.1) x y).1 (.ofFin r) = x (.ofFin (sortedFrom (before key) r))
      ∧ (Host.sort2 ⟨1, ![N]⟩ 0 (fun l r => gt l.1 r.1) x y).2 (.ofFin r) = y (.ofFin (sortedFrom (before key) r)) := by
  have hd : 0 < (⟨1, ![N]⟩ : Shape).rank := Nat.zero_lt_one
  have e : ∀ (j : (⟨1, ![N]⟩ : Shape).Idx) (c : Fin N), j.along (⟨0, hd⟩ : Fin (⟨1, ![N]⟩ : Shape).rank) c = .ofFin c :=
    fun j c => Shape.Idx.along_rank1 j c
  have hb : (fun a b : Fin N => gt (x ((Shape.Idx.ofFin r).along (⟨0, hd⟩ : Fin (⟨1, ![N]⟩ : Shape).rank) a))
        (x ((Shape.Idx.ofFin r).along ⟨0, hd⟩ b)) == 1#1) = fun a b => decide (key b < key a) :=
    funext fun a => funext fun b =>
      (congrArg₂ (fun i j => gt (x i) (x j) == 1#1) (e (.ofFin r) a) (e (.ofFin r) b)).trans (hgt a b)
  have hsrc : sortedFrom (n := N) (fun a b : Fin N => gt (x ((Shape.Idx.ofFin r).along (⟨0, hd⟩ : Fin (⟨1, ![N]⟩ : Shape).rank) a))
        (x ((Shape.Idx.ofFin r).along ⟨0, hd⟩ b)) == 1#1) r = sortedFrom (before key) r := by
    rw [hb, sortedFrom_stable]
  unfold Host.sort2
  rw [dif_pos hd]
  exact ⟨(congrArg (fun c : Fin N => x ((Shape.Idx.ofFin r).along ⟨0, hd⟩ c)) hsrc).trans (congrArg x (e _ _)),
    (congrArg (fun c : Fin N => y ((Shape.Idx.ofFin r).along ⟨0, hd⟩ c)) hsrc).trans (congrArg y (e _ _))⟩

/-- A top-k, its comparison that of the keys: place `r` holds the entry at the position the order gives, and that position. -/
theorem topK_by {K : ℕ} (h : (⟨1, ![N]⟩ : Shape).Slices (fun _ => 0) ⟨1, ![K]⟩) (r : Fin K) (r' : Fin N) (hr : r'.val = r.val) :
    (Host.topK ⟨1, ![K]⟩ 0 gt x h).1 (.ofFin r) = x (.ofFin (sortedFrom (before key) r'))
      ∧ (Host.topK ⟨1, ![K]⟩ 0 gt x h).2 (.ofFin r) = BitVec.ofNat 32 (sortedFrom (before key) r').val := by
  have hs := sort_read key gt x (fun i => if hd : 0 < (⟨1, ![N]⟩ : Shape).rank then iotaInDim ⟨1, ![N]⟩ 32 ⟨0, hd⟩ i else 0#32) hgt r'
  have hi : (fun a : Fin 1 => (⟨0 + r.val, by have := r'.isLt; match a with | ⟨0, _⟩ => show 0 + r.val < N; omega⟩ :
      Fin ((⟨1, ![N]⟩ : Shape).size a))) = Shape.Idx.ofFin r' :=
    funext fun a => Fin.ext (by show 0 + r.val = r'.val; omega)
  refine ⟨(congrArg _ hi).trans hs.1, (congrArg _ hi).trans (hs.2.trans ?_)⟩
  rw [dif_pos Nat.zero_lt_one]
  rfl

end

/-- A top-k of a vector of words below 2^31: place `r` holds the entry at the position the order gives, and that position. -/
theorem topK_read {K : ℕ} (x : IVec ⟨1, ![N]⟩ 32) (hx : ∀ a, (x (.ofFin a)).toNat = key a) (hk : ∀ a, key a < 2147483648)
    (h : (⟨1, ![N]⟩ : Shape).Slices (fun _ => 0) ⟨1, ![K]⟩) (r : Fin K) (r' : Fin N) (hr : r'.val = r.val) :
    (Host.topK ⟨1, ![K]⟩ 0 (IntOp.cmpi .sgt) x h).1 (.ofFin r) = x (.ofFin (sortedFrom (before key) r'))
      ∧ (Host.topK ⟨1, ![K]⟩ 0 (IntOp.cmpi .sgt) x h).2 (.ofFin r) = BitVec.ofNat 32 (sortedFrom (before key) r').val :=
  topK_by key (IntOp.cmpi .sgt) x (fun a b => by
    have h1 := hk a
    have h2 := hk b
    rw [sgt_beq _ _ (by rw [hx]; exact h1) (by rw [hx]; exact h2), hx, hx]) h r r' hr

end Cert.Proof.Rank

end
-- ==== Proof.Words.lean ====
/-
  What the words of the search compute. A chunk of 32 rows and 1024 lanes is folded into 8 sublanes and 128 lanes by one
  operation (add, signed maximum or signed minimum), chunk after chunk, and the 8 x 128 words left are reduced to one. The
  lemmas here read those folds as a sum over, or a bound of, all entries, an entry named by its flat position
  `65536 * row + 1024 * chunk + lane`. The two midpoints of the bisections are read as natural numbers.
-/
module

public import proofs.«01_k».proof.Proof.Gen.SearchIdeal.Skeleton
public import Idealize.ShloMosaic.Lib.Pointwise.Tactic
public import Idealize.ShloMosaic.Lib.Pointwise.Reduce
public import Idealize.ShloMosaic.Lib.WordSum
public import Idealize.ShloMosaic.Lib.ValueLayout
public import Idealize.ShloMosaic.Lib.WordCmp
public import Idealize.ShloMosaic.Lib.WordArith
public import Mathlib.Data.BitVec
public import Mathlib.Logic.Equiv.Fin.Basic
public import Mathlib.Data.Finset.Fold

@[expose] public section

set_option maxRecDepth 16384

noncomputable section

namespace Cert.Proof.Words

open Cert.SearchIdeal Cert.SearchIdeal.Gen
open Idealize.ShloMosaic
open scoped BigOperators

/-! ## Flat positions -/

section Flat

variable {M : Type} [AddCommMonoid M]

/-- A sum over `m * n` positions, by blocks of `n`. -/
theorem sum_blocks (m n : ℕ) (f : ℕ → M) :
    ∑ p : Fin (m * n), f p.val = ∑ a : Fin m, ∑ i : Fin n, f (n * a.val + i.val) := by
  rw [← Fintype.sum_prod_type']
  refine (Fintype.sum_equiv finProdFinEquiv _ _ fun x => ?_).symm
  rw [finProdFinEquiv_apply_val, add_comm]

/-- The flat position of row `8 a + i`, chunk `c`, lane `128 e + j`. -/
abbrev at5 (i j c a e : ℕ) : ℕ := 65536 * (8 * a + i) + (1024 * c + (128 * e + j))

/-- A sum over all positions in the order the folds take them. -/
theorem sum_folds (f : ℕ → M) :
    ∑ i : Fin 8, ∑ j : Fin 128, ∑ c : Fin 64, ∑ a : Fin 4, ∑ e : Fin 8, f (at5 i j c a e)
      = ∑ p : Fin 2097152, f p.val := by
  have h1 : ∑ p : Fin 2097152, f p.val
      = ∑ a : Fin 4, ∑ i : Fin 8, ∑ c : Fin 64, ∑ e : Fin 8, ∑ j : Fin 128, f (at5 i j c a e) := by
    rw [sum_blocks 32 65536 f, sum_blocks 4 8 fun b => ∑ q : Fin 65536, f (65536 * b + q.val)]
    refine Finset.sum_congr rfl fun a _ => Finset.sum_congr rfl fun i _ => ?_
    rw [sum_blocks 64 1024 fun q => f (65536 * (8 * a.val + i.val) + q)]
    refine Finset.sum_congr rfl fun c _ => ?_
    rw [sum_blocks 8 128 fun q => f (65536 * (8 * a.val + i.val) + (1024 * c.val + q))]
  rw [h1, Finset.sum_comm (s := (Finset.univ : Finset (Fin 4)))]
  refine Finset.sum_congr rfl fun i _ => ?_
  have h2 : ∀ a : Fin 4, ∑ c : Fin 64, ∑ e : Fin 8, ∑ j : Fin 128, f (at5 i j c a e)
      = ∑ j : Fin 128, ∑ c : Fin 64, ∑ e : Fin 8, f (at5 i j c a e) := by
    intro a
    rw [Finset.sum_comm (s := (Finset.univ : Finset (Fin 128)))]
    refine Finset.sum_congr rfl fun c _ => ?_
    rw [Finset.sum_comm]
  simp only [h2]
  rw [Finset.sum_comm (s := (Finset.univ : Finset (Fin 4)))]
  refine Finset.sum_congr rfl fun j _ => ?_
  rw [Finset.sum_comm (s := (Finset.univ : Finset (Fin 4)))]

/-- Every position is met by the folds. -/
theorem forall_folds (P : ℕ → Prop) :
    (∀ (i : Fin 8) (j : Fin 128) (c : Fin 64) (a : Fin 4) (e : Fin 8), P (at5 i j c a e)) ↔ ∀ p : Fin 2097152, P p.val := by
  constructor
  · intro h p
    have hp := p.isLt
    have := h ⟨p.val / 65536 % 8, by omega⟩ ⟨p.val % 128, by omega⟩ ⟨p.val % 65536 / 1024, by omega⟩
      ⟨p.val / 524288, by omega⟩ ⟨p.val % 1024 / 128, by omega⟩
    have e : at5 (p.val / 65536 % 8) (p.val % 128) (p.val % 65536 / 1024) (p.val / 524288) (p.val % 1024 / 128) = p.val := by
      unfold at5; omega
    rw [← e]; exact this
  · intro h i j c a e
    exact h ⟨at5 i j c a e, by have := i.isLt; have := j.isLt; have := c.isLt; have := a.isLt; have := e.isLt; unfold at5; omega⟩

end Flat

/-! ## The fold of one chunk -/

section Chunk

/-- A slice at an index is the source at the index moved by the offsets. -/
theorem slice_eq {s t : Shape} {off : Fin s.rank → ℕ} (g : s.Idx → BitVec 32) (h : s.Slices off t) (k : t.Idx) (k' : s.Idx)
    (hk : ∀ a, (k' a).val = off a + (k (a.cast h.1.symm)).val) : extractStridedSlice t off g h k = g k' :=
  congrArg g (funext fun a => Fin.ext (hk a).symm)

variable (op : BitVec 32 → BitVec 32 → BitVec 32)

/-- Four groups of eight rows combined. -/
def foldRows (g : IVec S32x1024 32) : IVec S8x1024 32 := fun k =>
  op (op (op (extractStridedSlice S8x1024 ![0, 0] g slices_S32x1024_o0_0_S8x1024 k)
    (extractStridedSlice S8x1024 ![8, 0] g slices_S32x1024_o8_0_S8x1024 k))
    (extractStridedSlice S8x1024 ![16, 0] g slices_S32x1024_o16_0_S8x1024 k))
    (extractStridedSlice S8x1024 ![24, 0] g slices_S32x1024_o24_0_S8x1024 k)

/-- Eight groups of 128 lanes combined. -/
def foldLanes (g : IVec S8x1024 32) : IVec S8x128 32 := fun k =>
  op (op (op (op (op (op (op (extractStridedSlice S8x128 ![0, 0] g slices_S8x1024_o0_0_S8x128 k)
    (extractStridedSlice S8x128 ![0, 128] g slices_S8x1024_o0_128_S8x128 k))
    (extractStridedSlice S8x128 ![0, 256] g slices_S8x1024_o0_256_S8x128 k))
    (extractStridedSlice S8x128 ![0, 384] g slices_S8x1024_o0_384_S8x128 k))
    (extractStridedSlice S8x128 ![0, 512] g slices_S8x1024_o0_512_S8x128 k))
    (extractStridedSlice S8x128 ![0, 640] g slices_S8x1024_o0_640_S8x128 k))
    (extractStridedSlice S8x128 ![0, 768] g slices_S8x1024_o0_768_S8x128 k))
    (extractStridedSlice S8x128 ![0, 896] g slices_S8x1024_o0_896_S8x128 k)

theorem foldRows_at (g : IVec S32x1024 32) (i : Fin 8) (l : Fin 1024) (r : ℕ → BitVec 32)
    (hr : ∀ a : Fin 4, g (ix2 (n0 := 32) (n1 := 1024) ⟨8 * a.val + i.val, by omega⟩ l) = r a.val) :
    foldRows op g (ix2 i l) = op (op (op (r 0) (r 1)) (r 2)) (r 3) := by
  unfold foldRows
  have key : ∀ (a : Fin 4) (o : ℕ) (h : S32x1024.Slices ![o, 0] S8x1024), o = 8 * a.val →
      extractStridedSlice S8x1024 ![o, 0] g h (ix2 i l) = r a.val := by
    intro a o h ho
    rw [← hr a]
    refine slice_eq g h _ _ fun x => ?_
    match x with
    | ⟨0, _⟩ => simp [ix2, ho]
    | ⟨1, _⟩ => simp [ix2]
  rw [key 0 0 _ rfl, key 1 8 _ rfl, key 2 16 _ rfl, key 3 24 _ rfl]
  rfl

theorem foldLanes_at (g : IVec S8x1024 32) (i : Fin 8) (j : Fin 128) (r : ℕ → BitVec 32)
    (hr : ∀ e : Fin 8, g (ix2 (n0 := 8) (n1 := 1024) i ⟨128 * e.val + j.val, by omega⟩) = r e.val) :
    foldLanes op g (ix2 i j) = op (op (op (op (op (op (op (r 0) (r 1)) (r 2)) (r 3)) (r 4)) (r 5)) (r 6)) (r 7) := by
  unfold foldLanes
  have key : ∀ (e : Fin 8) (o : ℕ) (h : S8x1024.Slices ![0, o] S8x128), o = 128 * e.val →
      extractStridedSlice S8x128 ![0, o] g h (ix2 i j) = r e.val := by
    intro e o h ho
    rw [← hr e]
    refine slice_eq g h _ _ fun x => ?_
    match x with
    | ⟨0, _⟩ => simp [ix2]
    | ⟨1, _⟩ => simp [ix2, ho]
  rw [key 0 0 _ rfl, key 1 128 _ rfl, key 2 256 _ rfl, key 3 384 _ rfl, key 4 512 _ rfl, key 5 640 _ rfl, key 6 768 _ rfl,
    key 7 896 _ rfl]
  rfl

/-- A chunk's fold by addition at sublane `i`, lane `j` is the sum of the entries there. -/
theorem foldAdd_at (g : IVec S32x1024 32) (i : Fin 8) (j : Fin 128) (r : ℕ → ℕ → BitVec 32)
    (hr : ∀ (a : Fin 4) (e : Fin 8), g (ix2 (n0 := 32) (n1 := 1024) ⟨8 * a.val + i.val, by omega⟩ ⟨128 * e.val + j.val, by omega⟩) = r a.val e.val) :
    foldLanes IntOp.addi (foldRows IntOp.addi g) (ix2 i j) = ∑ a : Fin 4, ∑ e : Fin 8, r a.val e.val := by
  rw [foldLanes_at IntOp.addi _ i j (fun e => IntOp.addi (IntOp.addi (IntOp.addi (r 0 e) (r 1 e)) (r 2 e)) (r 3 e))
    fun e => foldRows_at _ g i _ (fun a => r a e.val) fun a => hr a e]
  rw [Finset.sum_comm]
  simp only [Fin.sum_univ_eight, Fin.sum_univ_four]
  rfl

/-- The words bounded below by `z`, and the words bounded above by it, under the signed order. -/
theorem le_minsi (z : ℤ) (x y : BitVec 32) : z ≤ (IntOp.minsi x y).toInt ↔ z ≤ x.toInt ∧ z ≤ y.toInt := by
  unfold IntOp.minsi
  split <;> rename_i h <;> simp only [BitVec.slt, decide_eq_true_eq] at h <;> omega

theorem maxsi_le (z : ℤ) (x y : BitVec 32) : (IntOp.maxsi x y).toInt ≤ z ↔ x.toInt ≤ z ∧ y.toInt ≤ z := by
  unfold IntOp.maxsi
  split <;> rename_i h <;> simp only [BitVec.slt, decide_eq_true_eq] at h <;> omega

/-- A chunk's fold by the signed minimum. -/
theorem foldMin_at (z : ℤ) (g : IVec S32x1024 32) (i : Fin 8) (j : Fin 128) (r : ℕ → ℕ → BitVec 32)
    (hr : ∀ (a : Fin 4) (e : Fin 8), g (ix2 (n0 := 32) (n1 := 1024) ⟨8 * a.val + i.val, by omega⟩ ⟨128 * e.val + j.val, by omega⟩) = r a.val e.val) :
    z ≤ (foldLanes IntOp.minsi (foldRows IntOp.minsi g) (ix2 i j)).toInt
      ↔ ∀ (a : Fin 4) (e : Fin 8), z ≤ (r a.val e.val).toInt := by
  rw [foldLanes_at IntOp.minsi _ i j (fun e => IntOp.minsi (IntOp.minsi (IntOp.minsi (r 0 e) (r 1 e)) (r 2 e)) (r 3 e))
    fun e => foldRows_at _ g i _ (fun a => r a e.val) fun a => hr a e]
  simp only [le_minsi, Fin.forall_fin_succ, IsEmpty.forall_iff]
  simp
  tauto

/-- A chunk's fold by the signed maximum. -/
theorem foldMax_at (z : ℤ) (g : IVec S32x1024 32) (i : Fin 8) (j : Fin 128) (r : ℕ → ℕ → BitVec 32)
    (hr : ∀ (a : Fin 4) (e : Fin 8), g (ix2 (n0 := 32) (n1 := 1024) ⟨8 * a.val + i.val, by omega⟩ ⟨128 * e.val + j.val, by omega⟩) = r a.val e.val) :
    (foldLanes IntOp.maxsi (foldRows IntOp.maxsi g) (ix2 i j)).toInt ≤ z
      ↔ ∀ (a : Fin 4) (e : Fin 8), (r a.val e.val).toInt ≤ z := by
  rw [foldLanes_at IntOp.maxsi _ i j (fun e => IntOp.maxsi (IntOp.maxsi (IntOp.maxsi (r 0 e) (r 1 e)) (r 2 e)) (r 3 e))
    fun e => foldRows_at _ g i _ (fun a => r a e.val) fun a => hr a e]
  simp only [maxsi_le, Fin.forall_fin_succ, IsEmpty.forall_iff]
  simp
  tauto

end Chunk

/-! ## The reductions of the 8 x 128 words left -/

section Final

/-- The word taken out of a reduction of the 8 x 128 words: the fold of all of them. -/
theorem reduce_at (kind : IKind) (v : IVec S8x128 32) (acc : BitVec 32) (hacc : acc = kind.neutral) :
    extractAt ![0, 0, 0] (shapeCast S1x1x1 (multiReductionI kind [1, 2] S1
        (shapeCast S1x8x128 v shapeCasts_S8x128_S1x8x128) acc reduces_S1x8x128_S1 hacc) shapeCasts_S1_S1x1x1) inpos_S1x1x1_p0_0_0
      = (Finset.univ : Finset (Fin 8 × Fin 128)).fold kind.op acc fun k => v (ix2 k.1 k.2) := by
  unfold extractAt
  rw [shapeCast]
  rw [multiReductionI_eq_fold, Shape.Reduces.fold_fiber_r3_a12]
  congr 1
  funext k
  exact ValueIdx.shapeCast_ab_1ab_apply v _ _ _ _

/-- The sum of the 8 x 128 words. -/
theorem reduceAdd_at (v : IVec S8x128 32) :
    extractAt ![0, 0, 0] (k0_pay6 v) inpos_S1x1x1_p0_0_0 = ∑ i : Fin 8, ∑ j : Fin 128, v (ix2 i j) := by
  refine (reduce_at .add v _ rfl).trans ?_
  rw [← Fintype.sum_prod_type']
  induction (Finset.univ : Finset (Fin 8 × Fin 128)) using Finset.cons_induction with
  | empty => rfl
  | cons a S ha ih => rw [Finset.fold_cons, Finset.sum_cons, ih]; rfl

/-- A lower bound of the least of the 8 x 128 words. -/
theorem reduceMin_at (z : ℤ) (hz : z ≤ 2147483647) (v : IVec S8x128 32) :
    z ≤ (extractAt ![0, 0, 0] (k0_pay9 v) inpos_S1x1x1_p0_0_0).toInt ↔ ∀ (i : Fin 8) (j : Fin 128), z ≤ (v (ix2 i j)).toInt := by
  have h2 : ∀ S : Finset (Fin 8 × Fin 128), z ≤ (S.fold IKind.minsi.op 2147483647#32 fun k => v (ix2 k.1 k.2)).toInt
      ↔ ∀ k ∈ S, z ≤ (v (ix2 k.1 k.2)).toInt := by
    intro S
    induction S using Finset.cons_induction with
    | empty => exact ⟨fun _ k hk => by simp at hk, fun _ => hz⟩
    | cons a S ha ih =>
      rw [Finset.fold_cons]
      refine (le_minsi z _ _).trans ?_
      rw [ih, Finset.forall_mem_cons]
  have e : extractAt ![0, 0, 0] (k0_pay9 v) inpos_S1x1x1_p0_0_0
      = (Finset.univ : Finset (Fin 8 × Fin 128)).fold IKind.minsi.op 2147483647#32 fun k => v (ix2 k.1 k.2) := reduce_at .minsi v _ rfl
  rw [e, h2]
  simp only [Finset.mem_univ, true_implies, Prod.forall]

/-- An upper bound of the largest of the 8 x 128 words. -/
theorem reduceMax_at (z : ℤ) (hz : -2147483648 ≤ z) (v : IVec S8x128 32) :
    (extractAt ![0, 0, 0] (k0_pay3 v) inpos_S1x1x1_p0_0_0).toInt ≤ z ↔ ∀ (i : Fin 8) (j : Fin 128), (v (ix2 i j)).toInt ≤ z := by
  have h2 : ∀ S : Finset (Fin 8 × Fin 128), (S.fold IKind.maxsi.op 2147483648#32 fun k => v (ix2 k.1 k.2)).toInt ≤ z
      ↔ ∀ k ∈ S, (v (ix2 k.1 k.2)).toInt ≤ z := by
    intro S
    induction S using Finset.cons_induction with
    | empty => exact ⟨fun _ k hk => by simp at hk, fun _ => hz⟩
    | cons a S ha ih =>
      rw [Finset.fold_cons]
      refine (maxsi_le z _ _).trans ?_
      rw [ih, Finset.forall_mem_cons]
  have e : extractAt ![0, 0, 0] (k0_pay3 v) inpos_S1x1x1_p0_0_0
      = (Finset.univ : Finset (Fin 8 × Fin 128)).fold IKind.maxsi.op 2147483648#32 fun k => v (ix2 k.1 k.2) := reduce_at .maxsi v _ rfl
  rw [e, h2]
  simp only [Finset.mem_univ, true_implies, Prod.forall]

end Final

/-! ## The accumulators after `k` chunks -/

section Acc

variable (f : ℕ → BitVec 32)

/-- The words added up over the first `k` chunks. -/
def AddInv (k : ℕ) (acc : IVec S8x128 32) : Prop :=
  ∀ (i : Fin 8) (j : Fin 128), acc (ix2 i j) = ∑ c ∈ Finset.range k, ∑ a : Fin 4, ∑ e : Fin 8, f (at5 i j c a e)

/-- The least of the words over the first `k` chunks and of 2097152, by its lower bounds. -/
def MinInv (k : ℕ) (acc : IVec S8x128 32) : Prop :=
  ∀ z : ℤ, z ≤ 2097152 → ∀ (i : Fin 8) (j : Fin 128),
    (z ≤ (acc (ix2 i j)).toInt ↔ ∀ c < k, ∀ (a : Fin 4) (e : Fin 8), z ≤ (f (at5 i j c a e)).toInt)

/-- The largest of the words over the first `k` chunks and of 0, by its upper bounds. -/
def MaxInv (k : ℕ) (acc : IVec S8x128 32) : Prop :=
  ∀ (z : ℤ) (i : Fin 8) (j : Fin 128),
    ((acc (ix2 i j)).toInt ≤ z ↔ 0 ≤ z ∧ ∀ c < k, ∀ (a : Fin 4) (e : Fin 8), (f (at5 i j c a e)).toInt ≤ z)

theorem addInv_zero : AddInv f 0 (broadcast S8x128 0#32) := fun _ _ => by
  rw [Finset.sum_range_zero]; rfl

theorem minInv_zero : MinInv f 0 (broadcast S8x128 2097152#32) := fun z hz _ _ =>
  ⟨fun _ c hc => absurd hc (Nat.not_lt_zero c), fun _ => hz⟩

theorem maxInv_zero : MaxInv f 0 (broadcast S8x128 0#32) := fun z _ _ =>
  ⟨fun hz => ⟨hz, fun c hc => absurd hc (Nat.not_lt_zero c)⟩, fun h => h.1⟩

/-- The words of chunk `k`, row by row. -/
def Chunk (k : ℕ) (g : IVec S32x1024 32) : Prop :=
  ∀ (b : Fin 32) (l : Fin 1024), g (ix2 b l) = f (65536 * b.val + (1024 * k + l.val))

variable {f} {k : ℕ} {g : IVec S32x1024 32} {acc : IVec S8x128 32}

theorem addInv_succ (hg : Chunk f k g) (h : AddInv f k acc) :
    AddInv f (k + 1) (fun q => IntOp.addi (acc q) (foldLanes IntOp.addi (foldRows IntOp.addi g) q)) := fun i j => by
  rw [Finset.sum_range_succ, ← h i j]
  show acc (ix2 i j) + _ = _
  congr 1
  exact foldAdd_at g i j (fun a e => f (at5 i j k a e)) fun a e => hg _ _

theorem minInv_succ (hg : Chunk f k g) (h : MinInv f k acc) :
    MinInv f (k + 1) (fun q => IntOp.minsi (acc q) (foldLanes IntOp.minsi (foldRows IntOp.minsi g) q)) := fun z hz i j => by
  refine (le_minsi z _ _).trans ?_
  rw [h z hz i j, foldMin_at z g i j (fun a e => f (at5 i j k a e)) fun a e => hg _ _]
  constructor
  · rintro ⟨h1, h2⟩ c hc
    rcases Nat.lt_succ_iff_lt_or_eq.mp hc with hc | rfl
    · exact h1 c hc
    · exact h2
  · exact fun h1 => ⟨fun c hc => h1 c (by omega), h1 k (by omega)⟩

theorem maxInv_succ (hg : Chunk f k g) (h : MaxInv f k acc) :
    MaxInv f (k + 1) (fun q => IntOp.maxsi (acc q) (foldLanes IntOp.maxsi (foldRows IntOp.maxsi g) q)) := fun z i j => by
  refine (maxsi_le z _ _).trans ?_
  rw [h z i j, foldMax_at z g i j (fun a e => f (at5 i j k a e)) fun a e => hg _ _]
  constructor
  · rintro ⟨⟨h0, h1⟩, h2⟩
    refine ⟨h0, fun c hc => ?_⟩
    rcases Nat.lt_succ_iff_lt_or_eq.mp hc with hc | rfl
    · exact h1 c hc
    · exact h2
  · exact fun h1 => ⟨⟨h1.1, fun c hc => h1.2 c (by omega)⟩, h1.2 k (by omega)⟩

/-- The sum of all words. -/
theorem addInv_total (h : AddInv f 64 acc) :
    extractAt ![0, 0, 0] (k0_pay6 acc) inpos_S1x1x1_p0_0_0 = ∑ p : Fin 2097152, f p.val := by
  rw [reduceAdd_at, ← sum_folds]
  refine Finset.sum_congr rfl fun i _ => Finset.sum_congr rfl fun j _ => ?_
  rw [h i j, Finset.sum_range]

theorem minInv_total (h : MinInv f 64 acc) (z : ℤ) (hz : z ≤ 2097152) :
    z ≤ (extractAt ![0, 0, 0] (k0_pay9 acc) inpos_S1x1x1_p0_0_0).toInt ↔ ∀ p : Fin 2097152, z ≤ (f p.val).toInt := by
  rw [reduceMin_at z (by omega), ← forall_folds fun n => z ≤ (f n).toInt]
  refine forall_congr' fun i => forall_congr' fun j => ?_
  rw [h z hz i j]
  exact ⟨fun h c => h c.val c.isLt, fun h c hc => h ⟨c, hc⟩⟩

theorem maxInv_total (h : MaxInv f 64 acc) (z : ℤ) (hz : -2147483648 ≤ z) :
    (extractAt ![0, 0, 0] (k0_pay3 acc) inpos_S1x1x1_p0_0_0).toInt ≤ z ↔ 0 ≤ z ∧ ∀ p : Fin 2097152, (f p.val).toInt ≤ z := by
  rw [reduceMax_at z hz, ← forall_folds fun n => (f n).toInt ≤ z]
  constructor
  · exact fun h1 => ⟨((h z 0 0).mp (h1 0 0)).1, fun i j c => ((h z i j).mp (h1 i j)).2 c.val c.isLt⟩
  · exact fun h1 i j => (h z i j).mpr ⟨h1.1, fun c hc => h1.2 i j ⟨c, hc⟩⟩

/-- A sum of indicators is the number of positions they hold at. -/
theorem sum_ind {n : ℕ} (P : Fin n → Prop) [DecidablePred P] :
    ∑ p : Fin n, (if P p then 1#32 else 0#32) = BitVec.ofNat 32 (Finset.univ.filter P).card := by
  have : ∀ S : Finset (Fin n), ∑ p ∈ S, (if P p then 1#32 else 0#32) = BitVec.ofNat 32 (S.filter P).card := by
    intro S
    induction S using Finset.cons_induction with
    | empty => rfl
    | cons a S ha ih =>
      rw [Finset.sum_cons, ih, Finset.filter_cons]
      split
      · rw [Finset.card_cons, Nat.add_comm, BitVec.ofNat_add]
      · exact BitVec.zero_add _
  exact this _

end Acc

/-! ## Midpoints -/

section Mid

/-- Half of a word, rounded down: the quotient by two, less one where the signs differ and there is a remainder. -/
def half (s : BitVec 32) : BitVec 32 :=
  Scalar.select (Scalar.andi (Scalar.cmpi .ne (Scalar.subi (Scalar.extui (Scalar.cmpi .sgt s 0#32)) (Scalar.extui (Scalar.cmpi .slt s 0#32)))
      (Scalar.subi (Scalar.extui (Scalar.cmpi .sgt 2#32 0#32)) (Scalar.extui (Scalar.cmpi .slt 2#32 0#32))))
      (Scalar.cmpi .ne (Scalar.remsi s 2#32) 0#32))
    (Scalar.subi (Scalar.divsi s 2#32) 1#32) (Scalar.divsi s 2#32)

theorem half_toNat (s : BitVec 32) (hs : s.toNat < 2147483648) : (half s).toNat = s.toNat / 2 := by
  have hm : s.msb = false := by rw [BitVec.msb_eq_false_iff_two_mul_lt]; omega
  have hdiv : (Scalar.divsi s 2#32).toNat = s.toNat / 2 := by
    show (IntOp.divsi .scalar s 2#32).toNat = _
    unfold IntOp.divsi
    rw [if_neg (IntOp.not_corner_of_pos (by decide)), BitVec.sdiv_eq, hm, show (2#32).msb = false from by decide]
    show (s / 2#32).toNat = _
    rw [BitVec.toNat_udiv]; rfl
  by_cases h0 : s = 0#32
  · subst h0; decide
  · have hpos : 0 < s.toInt := by
      rw [WordCmp.toInt_eq_toNat_of_lt_half (by omega)]
      have : s.toNat ≠ 0 := fun h => h0 (BitVec.eq_of_toNat_eq h)
      omega
    have e1 : Scalar.cmpi .sgt s 0#32 = 1#1 := IntOp.cmpi_sgt.mpr hpos
    have e2 : Scalar.cmpi .slt s 0#32 = 0#1 := by
      refine (WordCmp.cmpi_slt_eq s 0#32).trans ?_
      rw [decide_eq_false (by show ¬ s.toInt < 0; omega)]; rfl
    unfold half
    rw [e1, e2]
    have e3 : Scalar.cmpi .ne (Scalar.subi (Scalar.extui 1#1) (Scalar.extui 0#1) : BitVec 32)
        (Scalar.subi (Scalar.extui (Scalar.cmpi .sgt 2#32 0#32)) (Scalar.extui (Scalar.cmpi .slt 2#32 0#32))) = 0#1 := by decide
    rw [e3]
    have e4 : ∀ z : BitVec 1, Scalar.andi 0#1 z = 0#1 := by decide
    rw [e4]
    exact hdiv

/-- The midpoint of the first bisection, rounded up. -/
def midUp (lo hi : BitVec 32) : BitVec 32 := Scalar.addi lo (half (Scalar.addi (Scalar.subi hi lo) 1#32))

/-- The midpoint of the second bisection, rounded down. -/
def midDown (lo hi : BitVec 32) : BitVec 32 := Scalar.addi lo (half (Scalar.subi hi lo))

/-- The two midpoints as they are spelled out in the loops. -/
theorem midUp_eq (lo hi : BitVec 32) : Scalar.addi lo (Scalar.select (Scalar.andi (Scalar.cmpi .ne (Scalar.subi (Scalar.extui (Scalar.cmpi .sgt (Scalar.addi (Scalar.subi hi lo) 1#32) 0#32)) (Scalar.extui (Scalar.cmpi .slt (Scalar.addi (Scalar.subi hi lo) 1#32) 0#32)))
      (Scalar.subi (Scalar.extui (Scalar.cmpi .sgt 2#32 0#32)) (Scalar.extui (Scalar.cmpi .slt 2#32 0#32))))
      (Scalar.cmpi .ne (Scalar.remsi (Scalar.addi (Scalar.subi hi lo) 1#32) 2#32) 0#32))
    (Scalar.subi (Scalar.divsi (Scalar.addi (Scalar.subi hi lo) 1#32) 2#32) 1#32) (Scalar.divsi (Scalar.addi (Scalar.subi hi lo) 1#32) 2#32)) = midUp lo hi := rfl

theorem midDown_eq (lo hi : BitVec 32) : Scalar.addi lo (Scalar.select (Scalar.andi (Scalar.cmpi .ne (Scalar.subi (Scalar.extui (Scalar.cmpi .sgt (Scalar.subi hi lo) 0#32)) (Scalar.extui (Scalar.cmpi .slt (Scalar.subi hi lo) 0#32)))
      (Scalar.subi (Scalar.extui (Scalar.cmpi .sgt 2#32 0#32)) (Scalar.extui (Scalar.cmpi .slt 2#32 0#32))))
      (Scalar.cmpi .ne (Scalar.remsi (Scalar.subi hi lo) 2#32) 0#32))
    (Scalar.subi (Scalar.divsi (Scalar.subi hi lo) 2#32) 1#32) (Scalar.divsi (Scalar.subi hi lo) 2#32)) = midDown lo hi := rfl

theorem midUp_toNat (lo hi : BitVec 32) (h : lo.toNat ≤ hi.toNat) (hh : hi.toNat < 2147483647) :
    (midUp lo hi).toNat = lo.toNat + (hi.toNat - lo.toNat + 1) / 2 := by
  have e1 : (Scalar.addi (Scalar.subi hi lo) 1#32).toNat = hi.toNat - lo.toNat + 1 := by
    show (hi - lo + 1#32).toNat = _
    rw [BitVec.toNat_add, BitVec.toNat_sub_of_le (by exact h)]
    show (_ + 1) % 2 ^ 32 = _
    omega
  show (lo + half _).toNat = _
  rw [BitVec.toNat_add, half_toNat _ (by omega), e1]
  omega

theorem midDown_toNat (lo hi : BitVec 32) (h : lo.toNat ≤ hi.toNat) (hh : hi.toNat < 2147483647) :
    (midDown lo hi).toNat = lo.toNat + (hi.toNat - lo.toNat) / 2 := by
  have e1 : (Scalar.subi hi lo).toNat = hi.toNat - lo.toNat := BitVec.toNat_sub_of_le (by exact h)
  show (lo + half _).toNat = _
  rw [BitVec.toNat_add, half_toNat _ (by omega), e1]
  omega

end Mid

/-! ## The words of a chunk of keys -/

section Keys

variable (W : ℕ → BitVec 32)

/-- One where the key is at least `t`. -/
def geWord (t : ℕ) (p : ℕ) : BitVec 32 := if t ≤ (W p).toNat then 1#32 else 0#32

/-- One where the key is `t` and the position at most `u`. -/
def tieWord (t u : ℕ) (p : ℕ) : BitVec 32 := if (W p).toNat = t ∧ p ≤ u then 1#32 else 0#32

/-- The position where the key is `t`, and 2097152 elsewhere. -/
def posWord (t : ℕ) (p : ℕ) : BitVec 32 := if (W p).toNat = t then BitVec.ofNat 32 p else 2097152#32

variable {W} {F : FTy → Type} [FloatOps F]

/-- The block of chunk `k` holds the keys at its positions. -/
def Block (W : ℕ → BitVec 32) (k : ℕ) (v : Vec F S1x32x1024 .i32) : Prop :=
  ∀ (b : Fin 32) (l : Fin 1024), v (ix3 (n0 := 1) (n1 := 32) (n2 := 1024) 0 b l) = W (65536 * b.val + (1024 * k + l.val))

variable {k : ℕ} {v : Vec F S1x32x1024 .i32}

theorem chunk_key (hv : Block W k v) : Chunk W k (shapeCast S32x1024 v shapeCasts_S1x32x1024_S32x1024) := fun b l =>
  (ValueIdx.shapeCast_1ab_ab_apply v shapeCasts_S1x32x1024_S32x1024 b l).trans (hv b l)

/-- The position words. -/
def posVec (k : ℕ) : IVec S32x1024 32 :=
  addi (addi (muli (iota .tc S32x1024 32 [0] iota_S32x1024_d0_w32) (broadcast S32x1024 65536#32))
    (iota .tc S32x1024 32 [1] iota_S32x1024_d1_w32)) (broadcast S32x1024 (Scalar.muli (Scf.iv 0#32 1#32 k) 1024#32))

theorem posVec_at (k : ℕ) : Chunk (BitVec.ofNat 32) k (posVec k) := fun b l => by
  show BitVec.ofNat 32 (0 * 32 + b.val) * 65536#32 + BitVec.ofNat 32 (0 * 1024 + l.val) + (Scf.iv 0#32 1#32 k) * 1024#32 = _
  have e : Scf.iv 0#32 1#32 k = BitVec.ofNat 32 k := by simp [Scf.iv]
  rw [e]
  have m1 : (65536#32) = BitVec.ofNat 32 65536 := rfl
  have m2 : (1024#32) = BitVec.ofNat 32 1024 := rfl
  rw [m1, m2, ← BitVec.ofNat_mul, ← BitVec.ofNat_mul, ← BitVec.ofNat_add, ← BitVec.ofNat_add]
  congr 1
  ring

theorem chunk_ge (hW : ∀ p, (W p).toNat < 2147483647) (hv : Block W k v) (t : BitVec 32) (ht : t.toNat < 2147483648) :
    Chunk (geWord W t.toNat) k
      (extui 32 (cmpi .sge (shapeCast S32x1024 v shapeCasts_S1x32x1024_S32x1024) (broadcast S32x1024 t)) natLt_1_32) := fun b l => by
  show Scalar.extui (IntOp.cmpi .sge (shapeCast S32x1024 v shapeCasts_S1x32x1024_S32x1024 (ix2 b l)) t) = _
  rw [chunk_key hv b l, WordCmp.cmpi_sge_eq, WordCmp.scalar_extui_ofBool, WordCmp.toInt_eq_toNat_of_lt_half (x := t) (by omega),
    WordCmp.toInt_eq_toNat_of_lt_half (x := W _) (by have := hW (65536 * b.val + (1024 * k + l.val)); omega)]
  unfold geWord
  simp only [Nat.cast_le, decide_eq_true_eq]

theorem chunk_tie (hk : k < 64) (hv : Block W k v) (t u : BitVec 32) (hu : u.toNat < 2147483648) :
    Chunk (tieWord W t.toNat u.toNat) k
      (extui 32 (andi (cmpi .eq (shapeCast S32x1024 v shapeCasts_S1x32x1024_S32x1024) (broadcast S32x1024 t))
        (cmpi .sle (posVec k) (broadcast S32x1024 u))) natLt_1_32) := fun b l => by
  show Scalar.extui (IntOp.andi (IntOp.cmpi .eq (shapeCast S32x1024 v shapeCasts_S1x32x1024_S32x1024 (ix2 b l)) t)
    (IntOp.cmpi .sle (posVec k (ix2 b l)) u)) = _
  have hb := b.isLt
  have hl := l.isLt
  rw [chunk_key hv b l, posVec_at k b l, WordCmp.cmpi_sle_eq, WordCmp.cmpi_eq_eq_toNat, WordCmp.andi_ofBool, WordCmp.scalar_extui_ofBool,
    WordCmp.toInt_eq_toNat_of_lt_half (x := u) (by omega), WordCmp.toInt_ofNat_of_lt (by omega)]
  unfold tieWord
  simp only [Nat.cast_le, Bool.and_eq_true, decide_eq_true_eq]

theorem chunk_pos (hv : Block W k v) (t : BitVec 32) :
    Chunk (posWord W t.toNat) k
      (select (cmpi .eq (shapeCast S32x1024 v shapeCasts_S1x32x1024_S32x1024) (broadcast S32x1024 t)) (posVec k)
        (broadcast S32x1024 2097152#32)) := fun b l => by
  show Scalar.select (IntOp.cmpi .eq (shapeCast S32x1024 v shapeCasts_S1x32x1024_S32x1024 (ix2 b l)) t) (posVec k (ix2 b l)) 2097152#32 = _
  rw [chunk_key hv b l, posVec_at k b l, WordCmp.cmpi_eq_eq_toNat, WordCmp.select_ofBool]
  unfold posWord
  simp only [decide_eq_true_eq]

end Keys

/-! ## One trip of each counted loop -/

section Trips

variable {F : FTy → Type} [FloatOps F] {W : ℕ → BitVec 32} {k : ℕ} {v : Vec F S1x32x1024 .i32} {acc : IVec S8x128 32}

theorem step_max (hv : Block W k v) (h : MaxInv W k acc) : MaxInv W (k + 1) (k0_pay2 acc v) :=
  maxInv_succ (chunk_key hv) h

theorem step_count (hW : ∀ p, (W p).toNat < 2147483647) (hv : Block W k v) (t : BitVec 32) (ht : t.toNat < 2147483647)
    (h : AddInv (geWord W (t.toNat + 1)) k acc) : AddInv (geWord W (t.toNat + 1)) (k + 1) (k0_pay5 t acc v) := by
  have e : (Scalar.addi t 1#32).toNat = t.toNat + 1 := by
    show (t + 1#32).toNat = _
    rw [BitVec.toNat_add]
    show (_ + 1) % 2 ^ 32 = _
    omega
  have hg := chunk_ge hW hv (Scalar.addi t 1#32) (by omega)
  rw [e] at hg
  exact addInv_succ hg h

theorem step_first (t : BitVec 32) (i : Fin k0_t4_loop.trips) (hv : Block W i.val v) (h : MinInv (posWord W t.toNat) i.val acc) :
    MinInv (posWord W t.toNat) (i.val + 1) (k0_pay8 t i acc v) :=
  minInv_succ (chunk_pos hv t) h

theorem step_bisect (hW : ∀ p, (W p).toNat < 2147483647) (hv : Block W k v) (lo hi : BitVec 32) (hm : (midUp lo hi).toNat < 2147483648)
    (h : AddInv (geWord W (midUp lo hi).toNat) k acc) : AddInv (geWord W (midUp lo hi).toNat) (k + 1) (k0_pay11 lo hi acc v) :=
  addInv_succ (chunk_ge hW hv (midUp lo hi) hm) h

theorem step_tie (t lo hi : BitVec 32) (i : Fin k0_t5_loop.trips) (hi' : i.val < 64) (hv : Block W i.val v)
    (hm : (midDown lo hi).toNat < 2147483648) (h : AddInv (tieWord W t.toNat (midDown lo hi).toNat) i.val acc) :
    AddInv (tieWord W t.toNat (midDown lo hi).toNat) (i.val + 1) (k0_pay14 t lo hi i acc v) :=
  addInv_succ (chunk_tie hi' hv t (midDown lo hi) hm) h

end Trips

end Cert.Proof.Words

end
-- ==== Proof.Count.lean ====
/-
  From words to ranks. The counts, the largest key, the first tied position and the new bounds of either bisection, read as
  natural numbers and placed around the threshold and the tie position of `Rank`.
-/
module

public import proofs.«01_k».proof.Proof.Rank
public import proofs.«01_k».proof.Proof.Words

@[expose] public section

set_option maxRecDepth 16384

noncomputable section

namespace Cert.Proof.Count

open Cert.SearchIdeal Cert.SearchIdeal.Gen Cert.Proof.Words Cert.Proof.Rank
open Idealize.ShloMosaic

variable (W : ℕ → BitVec 32)

/-- The key at each position, as a number. -/
def keyOf (p : Fin 2097152) : ℕ := (W p.val).toNat

/-- The threshold and the tie position among 2048. -/
abbrev T : ℕ := thr (keyOf W) 2048
abbrev P : ℕ := pos (keyOf W) 2048
abbrev R : ℕ := need (keyOf W) 2048

variable {W} (hW : ∀ p, (W p).toNat < 2147483647)
include hW

theorem key_top : ∀ n, keyOf W n ≤ top := fun n => by have := hW n.val; unfold keyOf top; omega

theorem reach_iff (x : ℕ) : 2048 ≤ atLeast (keyOf W) x ↔ x ≤ T W := atLeast_iff (by omega) (by omega) (key_top hW) x

theorem reachTie_iff (u : ℕ) : R W ≤ tied (keyOf W) 2048 u ↔ P W ≤ u := tied_iff (by omega) (by omega) (key_top hW) u

omit hW in
theorem T_le : T W ≤ 2147483646 := Nat.findGreatest_le _

theorem P_lt : P W < 2097152 := pos_lt (by omega) (by omega) (key_top hW)

omit hW in
theorem R_le : R W ≤ 2048 := Nat.sub_le _ _

variable {acc : IVec S8x128 32}

omit hW in
/-- The count of the keys at least `x`. -/
theorem total_ge (x : ℕ) (h : AddInv (geWord W x) 64 acc) :
    extractAt ![0, 0, 0] (k0_pay6 acc) inpos_S1x1x1_p0_0_0 = BitVec.ofNat 32 (atLeast (keyOf W) x) :=
  (addInv_total h).trans (sum_ind fun p : Fin 2097152 => x ≤ (W p.val).toNat)

omit hW in
/-- The count of the threshold's ties up to `u`. -/
theorem total_tie (u : ℕ) (h : AddInv (tieWord W (T W) u) 64 acc) :
    extractAt ![0, 0, 0] (k0_pay6 acc) inpos_S1x1x1_p0_0_0 = BitVec.ofNat 32 (tied (keyOf W) 2048 u) :=
  (addInv_total h).trans (sum_ind fun p : Fin 2097152 => (W p.val).toNat = T W ∧ p.val ≤ u)

omit hW in
theorem sge_iff (a : ℕ) (ha : a < 2147483648) (y : BitVec 32) (hy : y.toNat < 2147483648) :
    Scalar.cmpi .sge (BitVec.ofNat 32 a) y = BitVec.ofBool (decide (y.toNat ≤ a)) := by
  refine (WordCmp.cmpi_sge_eq _ _).trans ?_
  rw [WordCmp.toInt_ofNat_of_lt (by omega), WordCmp.toInt_eq_toNat_of_lt_half (x := y) (by omega)]
  simp only [Nat.cast_le]

omit hW in
/-- The bisections go on exactly while the lower bound is below the upper. -/
theorem slt_iff (lo hi : BitVec 32) (h : lo.toNat < 2147483648) (h' : hi.toNat < 2147483648) :
    Scalar.cmpi .slt lo hi = 1#1 ↔ lo.toNat < hi.toNat := by
  refine IntOp.cmpi_slt.trans ?_
  rw [WordCmp.toInt_eq_toNat_of_lt_half (x := lo) (by omega), WordCmp.toInt_eq_toNat_of_lt_half (x := hi) (by omega)]
  exact Nat.cast_lt

/-- The largest key bounds the threshold. -/
theorem max_bound (h : MaxInv W 64 acc) :
    T W ≤ (extractAt ![0, 0, 0] (k0_pay3 acc) inpos_S1x1x1_p0_0_0).toNat
      ∧ (extractAt ![0, 0, 0] (k0_pay3 acc) inpos_S1x1x1_p0_0_0).toNat ≤ 2147483646 := by
  generalize hm : extractAt ![0, 0, 0] (k0_pay3 acc) inpos_S1x1x1_p0_0_0 = m
  have key : ∀ z : ℤ, -2147483648 ≤ z → (m.toInt ≤ z ↔ 0 ≤ z ∧ ∀ p : Fin 2097152, ((W p.val).toNat : ℤ) ≤ z) := fun z hz => by
    rw [← hm, maxInv_total h z hz]
    refine and_congr_right fun _ => forall_congr' fun p => ?_
    rw [WordCmp.toInt_eq_toNat_of_lt_half (x := W p.val) (by have := hW p.val; omega)]
  obtain ⟨n, hn⟩ := exists_of_atLeast (key := keyOf W) (x := T W) (by have := (reach_iff hW (T W)).mpr le_rfl; omega)
  have hub : m.toInt ≤ 2147483646 := (key _ (by omega)).mpr ⟨by omega, fun p => by have := hW p.val; omega⟩
  have h0 := (key m.toInt (by have := BitVec.le_two_mul_toInt (x := m); omega)).mp le_rfl
  have hT : (T W : ℤ) ≤ m.toInt := by
    have h1 := h0.2 n
    have h2 : T W ≤ (W n.val).toNat := hn
    omega
  have e := BitVec.toInt_eq_toNat_cond m
  split at e <;> omega

/-- One step of the bisection on the threshold keeps it between the bounds and brings them closer. -/
theorem bisect_step (lo hi : BitVec 32) (hlt : lo.toNat < hi.toNat) (hlo : lo.toNat ≤ T W) (hT : T W ≤ hi.toNat) (hhi : hi.toNat ≤ 2147483646)
    (h : AddInv (geWord W (midUp lo hi).toNat) 64 acc) (c : BitVec 1)
    (hc : c = Scalar.cmpi .sge (extractAt ![0, 0, 0] (k0_pay12 acc) inpos_S1x1x1_p0_0_0) 2048#32) :
    (Scalar.select c (midUp lo hi) lo).toNat ≤ T W ∧ T W ≤ (Scalar.select c hi (Scalar.subi (midUp lo hi) 1#32)).toNat
      ∧ (Scalar.select c hi (Scalar.subi (midUp lo hi) 1#32)).toNat ≤ 2147483646
      ∧ (Scalar.select c hi (Scalar.subi (midUp lo hi) 1#32)).toNat - (Scalar.select c (midUp lo hi) lo).toNat < hi.toNat - lo.toNat := by
  have hm := midUp_toNat lo hi hlt.le (by omega)
  have hN := atLeast_le (key := keyOf W) (midUp lo hi).toNat
  have e : c = BitVec.ofBool (decide (2048 ≤ atLeast (keyOf W) (midUp lo hi).toNat)) := by
    refine hc.trans ((congrArg (fun w => Scalar.cmpi .sge w 2048#32) (total_ge _ h)).trans ?_)
    exact sge_iff _ (by omega) _ (by decide)
  rw [e, WordCmp.select_ofBool, WordCmp.select_ofBool]
  simp only [decide_eq_true_eq, reach_iff hW]
  have hs : (Scalar.subi (midUp lo hi) 1#32).toNat = (midUp lo hi).toNat - 1 :=
    BitVec.toNat_sub_of_le (by show 1 ≤ (midUp lo hi).toNat; omega)
  split <;> rename_i hx <;> refine ⟨?_, ?_, ?_, ?_⟩ <;> omega

/-- One step of the bisection on the tie position. -/
theorem tie_step (lo hi need : BitVec 32) (hneed : need.toNat = R W) (hlt : lo.toNat < hi.toNat) (hlo : lo.toNat ≤ P W) (hP : P W ≤ hi.toNat)
    (hhi : hi.toNat ≤ 2097151) (h : AddInv (tieWord W (T W) (midDown lo hi).toNat) 64 acc) (c : BitVec 1)
    (hc : c = Scalar.cmpi .sge (extractAt ![0, 0, 0] (k0_pay15 acc) inpos_S1x1x1_p0_0_0) need) :
    (Scalar.select c lo (Scalar.addi (midDown lo hi) 1#32)).toNat ≤ P W ∧ P W ≤ (Scalar.select c (midDown lo hi) hi).toNat
      ∧ (Scalar.select c (midDown lo hi) hi).toNat ≤ 2097151
      ∧ (Scalar.select c (midDown lo hi) hi).toNat - (Scalar.select c lo (Scalar.addi (midDown lo hi) 1#32)).toNat < hi.toNat - lo.toNat := by
  have hm := midDown_toNat lo hi hlt.le (by omega)
  have hN := tied_le (key := keyOf W) (K := 2048) (midDown lo hi).toNat
  have hR := R_le (W := W)
  have e : c = BitVec.ofBool (decide (R W ≤ tied (keyOf W) 2048 (midDown lo hi).toNat)) := by
    refine hc.trans ((congrArg (fun w => Scalar.cmpi .sge w need) (total_tie _ h)).trans ?_)
    rw [← hneed]
    exact sge_iff _ (by omega) _ (by omega)
  rw [e, WordCmp.select_ofBool, WordCmp.select_ofBool]
  simp only [decide_eq_true_eq, reachTie_iff hW]
  have hs : (Scalar.addi (midDown lo hi) 1#32).toNat = (midDown lo hi).toNat + 1 := by
    show (midDown lo hi + 1#32).toNat = _
    rw [BitVec.toNat_add]
    show (_ + 1) % 2 ^ 32 = _
    omega
  split <;> rename_i hx <;> refine ⟨?_, ?_, ?_, ?_⟩ <;> omega

/-- How many ties are needed, as a word. -/
theorem need_word (h : AddInv (geWord W (T W + 1)) 64 acc) :
    (Scalar.subi 2048#32 (extractAt ![0, 0, 0] (k0_pay6 acc) inpos_S1x1x1_p0_0_0)).toNat = R W := by
  rw [total_ge _ h]
  have h1 : ¬ 2048 ≤ atLeast (keyOf W) (T W + 1) := fun h => by have := (reach_iff hW _).mp h; omega
  have e : (BitVec.ofNat 32 (atLeast (keyOf W) (T W + 1))).toNat = atLeast (keyOf W) (T W + 1) := by
    rw [BitVec.toNat_ofNat]; omega
  show (2048#32 - BitVec.ofNat 32 _).toNat = _
  rw [BitVec.toNat_sub_of_le (by show (BitVec.ofNat 32 _).toNat ≤ 2048; omega), e]
  rfl

omit hW in
/-- The branch taken: the first tie is the one needed. -/
theorem cond_iff (w : BitVec 32) : k0_cond1 w = 1#1 ↔ (Scalar.subi 2048#32 w).toNat = 1 := by
  show IntOp.cmpi .ne (Scalar.extui (IntOp.cmpi .eq (Scalar.subi 2048#32 w) 1#32)) 0#32 = 1#1 ↔ _
  rw [WordCmp.cmpi_eq_eq_toNat, WordCmp.scalar_extui_ofBool]
  by_cases h : (Scalar.subi 2048#32 w).toNat = 1
  · rw [h]; decide
  · rw [decide_eq_false (by exact h)]
    exact ⟨fun h' => absurd h' (by decide), fun h' => absurd h' h⟩

/-- The first tied position, where one tie is needed. -/
theorem first_word (hR : R W = 1) (h : MinInv (posWord W (T W)) 64 acc) :
    extractAt ![0, 0, 0] (k0_pay9 acc) inpos_S1x1x1_p0_0_0 = BitVec.ofNat 32 (P W) := by
  generalize hm : extractAt ![0, 0, 0] (k0_pay9 acc) inpos_S1x1x1_p0_0_0 = m
  have hP := P_lt hW
  have key : ∀ z : ℕ, z ≤ 2097152 → ((z : ℤ) ≤ m.toInt ↔ z ≤ P W) := fun z hz => by
    rw [← hm, minInv_total h z (by omega)]
    have h1 : (∀ p : Fin 2097152, (z : ℤ) ≤ (posWord W (T W) p.val).toInt) ↔ ∀ p : Fin 2097152, keyOf W p = T W → z ≤ p.val := by
      refine forall_congr' fun p => ?_
      have hp := p.isLt
      unfold posWord
      by_cases hk : (W p.val).toNat = T W
      · rw [if_pos hk, WordCmp.toInt_ofNat_of_lt (by omega)]
        exact ⟨fun h _ => by omega, fun h => by have := h hk; omega⟩
      · rw [if_neg hk]
        exact ⟨fun _ h => absurd h hk, fun _ => by show (z : ℤ) ≤ 2097152; omega⟩
    rw [h1]
    constructor
    · intro h2
      have h3 := key_pos (by omega) (by omega) (key_top hW) (K := 2048)
      exact h2 _ h3
    · intro hz p hp
      refine hz.trans ((reachTie_iff hW p.val).mp ?_)
      rw [hR]
      exact Finset.card_pos.mpr ⟨p, Finset.mem_filter.mpr ⟨Finset.mem_univ _, hp, le_rfl⟩⟩
  have h1 := (key (P W) (by omega)).mpr le_rfl
  have h2 : ¬ ((P W + 1 : ℕ) : ℤ) ≤ m.toInt := fun h => by have := (key (P W + 1) (by omega)).mp h; omega
  apply BitVec.eq_of_toNat_eq
  rw [BitVec.toNat_ofNat]
  have e := BitVec.toInt_eq_toNat_cond m
  split at e <;> omega

end Cert.Proof.Count

end
-- ==== Proof.Body.lean ====
/-
  The kernel body, run. A counted loop over the 64 chunks keeps an invariant of its accumulator and leaves the key buffer as
  it was. The two bisections are the labels of the two while loops, each answered through a specification at a variant: the
  distance between the bounds. The body then stores the threshold and the tie position.
-/
module

public import proofs.«01_k».proof.SearchIdeal
public import proofs.«01_k».proof.Proof.Count
public import proofs.«01_k».proof.Proof.Gen.SearchIdeal.Launch
public import proofs.«01_k».proof.Proof.Gen.SearchIdeal.Points
public import Idealize.ShloMosaic.Lib.Pipeline.Sound
public import Idealize.ShloMosaic.Lib.Tactic

@[expose] public section

set_option maxRecDepth 16384

noncomputable section

namespace Cert.Proof.Body

open Cert.SearchIdeal Cert.SearchIdeal.Gen Cert.Proof.Words Cert.Proof.Count

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

/-- The ghost algebra of the launch. -/
abbrev UR (nD : Nat) (τ : Topo) : Type := URounds (GSem nD τ sig) Unit

local notation "𝕄" => MT nD τ sig Unit (Elt F) ℕ (UR nD τ) ℕ

/-- The call tables carry a natural number as variant. -/
abbrev 𝒱₀ : Variants := Variants.nat

/-! ## The keys in the buffer -/

/-- The key at a flat position; zero beyond the last. -/
def kw (x : S64x32x1024.Idx → BitVec 32) (n : ℕ) : BitVec 32 :=
  if h : n < 2097152 then x (ix3 (n0 := 64) (n1 := 32) (n2 := 1024) ⟨n % 65536 / 1024, by omega⟩ ⟨n / 65536, by omega⟩ ⟨n % 1024, by omega⟩)
  else 0#32

/-- Every key is a 31-bit number, and not the greatest of them. -/
def Small (x : S64x32x1024.Idx → BitVec 32) : Prop := ∀ i, (x i).toNat < 2147483647

theorem kw_small {x : S64x32x1024.Idx → BitVec 32} (h : Small x) (p : ℕ) : (kw x p).toNat < 2147483647 := by
  unfold kw
  split
  · exact h _
  · decide

abbrev keyBuf (c : Dev nD) : Type := Buf (Elt F) ((c : Thread nD τ).loc cc0_stg0_0)

/-- What a trip loads is a chunk of the keys. -/
theorem block_read (fx : (cc0_stg0_0 : Ref sig .tc).ty.Contents (Elt F)) (k : ℕ) (hk : k < 64) (off : Fin 3 → ℕ) (hoff : off = ![k, 0, 0])
    (inb : ∀ a, off a + S1x32x1024.size a ≤ S64x32x1024.size a) :
    Block (F := F) (kw fx) k (((Memref.whole cc0_stg0_0).access (Rect.unit (s := S64x32x1024) off S1x32x1024.size inb) : View sig .tc _ _ _).read (Elt F) fx) := by
  subst hoff
  intro b l
  have hb := b.isLt
  have hl := l.isLt
  unfold kw
  rw [dif_pos (by omega)]
  refine congrArg fx (funext fun a => Fin.ext ?_)
  match a with
  | ⟨0, _⟩ => show k + 1 * 0 = (65536 * b.val + (1024 * k + l.val)) % 65536 / 1024; omega
  | ⟨1, _⟩ => show 0 + 1 * b.val = (65536 * b.val + (1024 * k + l.val)) / 65536; omega
  | ⟨2, _⟩ => show 0 + 1 * l.val = (65536 * b.val + (1024 * k + l.val)) % 1024; omega

/-! ## A counted loop -/

/-- A loop over the chunks that keeps `I` of its accumulator, the key buffer read and left as it was. -/
theorem loop_wp (c : Dev nD) (bd : Option ℕ) (E : Set ℕ) (fx : keyBuf (F := F) c) (L : Scf.Loop 32) (hok : L.OK)
    (off : Fin L.trips → Fin 3 → ℕ) (inb : ∀ i a, off i a + S1x32x1024.size a ≤ S64x32x1024.size a)
    (pay : Fin L.trips → IVec S8x128 32 → Vec F S1x32x1024 .i32 → IVec S8x128 32) (init : IVec S8x128 32)
    (body : Fin L.trips → IVec S8x128 32 → Prog (TpuEff nD τ sig (Elt F) (Λ₀ F) .tc) (IVec S8x128 32))
    (hb : ∀ i acc, body i acc = Prog.op (.load (Memref.whole cc0_stg0_0)
      (Rect.unit (s := S64x32x1024) (off i) S1x32x1024.size (inb i)).toLoadRect (View.loadsAt_vmem h_S1x32x1024)) fun v => Prog.ret (pay i acc v))
    (I : ℕ → IVec S8x128 32 → Prop) (h0 : I 0 init)
    (hI : ∀ (i : Fin L.trips) (acc : IVec S8x128 32), I i.val acc → I (i.val + 1) (pay i acc
      (((Memref.whole cc0_stg0_0).access (Rect.unit (s := S64x32x1024) (off i) S1x32x1024.size (inb i)) : View sig .tc _ _ _).read (Elt F) fx)))
    {β : Type} (kk : IVec S8x128 32 → Prog (TpuEff nD τ sig (Elt F) (Λ₀ F) .tc) β) (Q : β → sProp 𝕄) :
    (((c : Thread nD τ).loc cc0_stg0_0) ↦{fullShare} fx)
      ⊢ iprop((∀ acc, ⌜I L.trips acc⌝ -∗ (((c : Thread nD τ).loc cc0_stg0_0) ↦{fullShare} fx)
          -∗ wp frame (wpE (defs₀ (F := F)) 𝒱₀ (c : Thread nD τ) bd) E (kk acc) Q)
        -∗ wp frame (wpE (defs₀ (F := F)) 𝒱₀ (c : Thread nD τ) bd) E (Scf.Loop.for L hok init body >>= kk) Q) := by
  have h := Scf.wp_for_bind (σ := IVec S8x128 32) frame (wpE (defs₀ (F := F)) 𝒱₀ (c : Thread nD τ) bd) E L.lb L.ub L.st hok init body
    (fun k acc => iprop(⌜I k acc⌝ ∗ (((c : Thread nD τ).loc cc0_stg0_0) ↦{fullShare} fx)))
    (fun k acc => by
      rw [hb k acc]
      iintro ⟨%hk, H⟩
      iapply (wp_load 𝒱₀ (c : Thread nD τ) bd E (m := Memref.whole cc0_stg0_0) (Finset.subset_univ _)) $$ H; iintro H
      rw [wp_ret]; imodintro
      isplitr
      · ipureintro; exact hI k acc hk
      · iexact H) (kk := kk) (Q := Q)
  iintro H HK
  iapply h $$ [H]
  · isplitr
    · ipureintro; exact h0
    · iexact H
  · iintro %acc ⟨%hacc, H⟩
    iapply HK
    · ipureintro; exact hacc
    · iexact H

/-! ## The loops' trips and offsets -/

theorem trips1 : k0_t1_loop.trips = 64 := by decide +kernel
theorem trips2 : k0_t2_loop.trips = 64 := by decide +kernel
theorem trips3 : k0_t3_loop.trips = 64 := by decide +kernel
theorem trips4 : k0_t4_loop.trips = 64 := by decide +kernel
theorem trips5 : k0_t5_loop.trips = 64 := by decide +kernel

theorem off1 : ∀ i : Fin k0_t1_loop.trips, k0_off1 i = ![i.val, 0, 0] := by decide +kernel
theorem off2 : ∀ i : Fin k0_t2_loop.trips, k0_off2 i = ![i.val, 0, 0] := by decide +kernel
theorem off3 : ∀ i : Fin k0_t3_loop.trips, k0_off3 i = ![i.val, 0, 0] := by decide +kernel
theorem off4 : ∀ i : Fin k0_t4_loop.trips, k0_off4 i = ![i.val, 0, 0] := by decide +kernel
theorem off5 : ∀ i : Fin k0_t5_loop.trips, k0_off5 i = ![i.val, 0, 0] := by decide +kernel

/-! ## The two bisections -/

section Labels

variable (c : Dev nD) (fx : keyBuf (F := F) c)

/-- The key buffer, held whole. -/
def held : sProp 𝕄 := iprop(((c : Thread nD τ).loc cc0_stg0_0) ↦{fullShare} fx)

/-- A bisection's specification: holding the keys it returns bounds whose first is the number `n`, the keys as they were. -/
def spec (n : ℕ) : sWPT 𝕄 (BitVec 32 × BitVec 32) := do
  sWPT.consume (held c fx)
  let r ← sWPT.arbitrary
  sWPT.assume (r.1 = BitVec.ofNat 32 n)
  sWPT.produce (held c fx)
  pure r

theorem spec_apply (n : ℕ) (K : BitVec 32 × BitVec 32 → sProp 𝕄) :
    spec c fx n K = iprop(held c fx ∗ ∀ r : BitVec 32 × BitVec 32, ⌜r.1 = BitVec.ofNat 32 n⌝ -∗ (held c fx -∗ K r)) := rfl

variable (hx : Small fx)
include hx

/-- The bisection on the threshold, by induction on the distance between the bounds. -/
theorem spec1_le (E : Set ℕ) : ∀ (k : ℕ) (lo hi : BitVec 32), hi.toNat - lo.toNat ≤ k → lo.toNat ≤ T (kw fx) → T (kw fx) ≤ hi.toNat →
    hi.toNat ≤ 2147483646 → ∀ K, spec c fx (T (kw fx)) K
      ⊢ wp frame (wpE (defs₀ (F := F)) 𝒱₀ (c : Thread nD τ) (some k)) E
          (defs₀ (F := F) .tc 1 ⟨Memref.whole cc0_stg0_0, Memref.isWhole_whole _, lo, hi⟩) K := by
  intro k
  induction k with
  | zero =>
    intro lo hi hd hlo hT hhi K
    rw [spec_apply]
    show _ ⊢ wp frame (wpE (defs₀ (F := F)) 𝒱₀ (c : Thread nD τ) (some 0)) E
      (cc0_while1 (Memref.whole cc0_stg0_0) (Memref.isWhole_whole _) lo hi) K
    unfold cc0_while1
    have htest : ¬Scalar.cmpi .slt lo hi = 1#1 := by rw [slt_iff lo hi (by omega) (by omega)]; omega
    simp only [htest, ↓reduceIte, Prog.pure_eq_ret]
    iintro ⟨H, Hk⟩
    rw [wp_ret]; imodintro
    iapply Hk
    · ipureintro
      show lo = _
      rw [show T (kw fx) = lo.toNat by omega, BitVec.ofNat_toNat, BitVec.setWidth_eq]
    · iexact H
  | succ k ih =>
    intro lo hi hd hlo hT hhi K
    rw [spec_apply]
    show _ ⊢ wp frame (wpE (defs₀ (F := F)) 𝒱₀ (c : Thread nD τ) (some (k + 1))) E
      (cc0_while1 (Memref.whole cc0_stg0_0) (Memref.isWhole_whole _) lo hi) K
    by_cases hlt : lo.toNat < hi.toNat
    · have htest : Scalar.cmpi .slt lo hi = 1#1 := (slt_iff lo hi (by omega) (by omega)).mpr hlt
      simp only [cc0_while1_eq_skeleton]; unfold cc0_while1_skel
      simp only [htest, ↓reduceIte, Prog.lift, Prog.bind_op, Prog.bind_ret, Prog.pure_eq_ret, midUp_eq]
      unfold held
      iintro ⟨H, Hk⟩
      iapply (loop_wp c (some (k + 1)) E fx k0_t2_loop k0_t2_ok k0_off2 k0_off2_inb (fun _ acc v => k0_pay11 lo hi acc v) k0_pay10 _ (fun _ _ => rfl)
        (AddInv (geWord (kw fx) (midUp lo hi).toNat)) (addInv_zero _)
        (fun i acc h => step_bisect (kw_small hx) (block_read fx i.val (lt_of_lt_of_eq i.isLt trips2) _ (off2 i) _) lo hi
          (by have := midUp_toNat lo hi hlt.le (by omega); omega) h)) $$ H
      iintro %acc %hacc H
      rw [trips2] at hacc
      obtain ⟨h1, h2, h3, h4⟩ := bisect_step (kw_small hx) lo hi hlt hlo hT hhi hacc _ rfl
      generalize Scalar.cmpi .sge (extractAt ![0, 0, 0] (k0_pay12 acc) inpos_S1x1x1_p0_0_0) 2048#32 = ge at h1 h2 h3 h4 ⊢
      generalize Scalar.select ge (midUp lo hi) lo = lo' at h1 h2 h3 h4 ⊢
      generalize Scalar.select ge hi (Scalar.subi (midUp lo hi) 1#32) = hi' at h1 h2 h3 h4 ⊢
      iapply (wp_call_spec 𝒱₀ (c : Thread nD τ) (some (k + 1)) E (spec c fx (T (kw fx))) k
        (fun u hu => by cases hu; exact Nat.lt_succ_self k)
        (ih lo' hi' (by omega) h1 h2 h3))
      rw [spec_apply]; unfold held
      isplitl [H]; · iexact H
      iintro %r %hr H
      rw [wp_ret]; imodintro
      iapply Hk
      · ipureintro; exact hr
      · iexact H
    · unfold cc0_while1
      have htest : ¬Scalar.cmpi .slt lo hi = 1#1 := by rw [slt_iff lo hi (by omega) (by omega)]; omega
      simp only [htest, ↓reduceIte, Prog.pure_eq_ret]
      iintro ⟨H, Hk⟩
      rw [wp_ret]; imodintro
      iapply Hk
      · ipureintro
        show lo = _
        rw [show T (kw fx) = lo.toNat by omega, BitVec.ofNat_toNat, BitVec.setWidth_eq]
      · iexact H

/-- The bisection on the tie position. -/
theorem spec2_le (E : Set ℕ) (v15 : BitVec 32) (h1 : ¬ k0_cond1 v15 = 1#1) (tv need : BitVec 32) (htv : tv.toNat = T (kw fx))
    (hneed : need.toNat = R (kw fx)) : ∀ (k : ℕ) (lo hi : BitVec 32), hi.toNat - lo.toNat ≤ k → lo.toNat ≤ P (kw fx) → P (kw fx) ≤ hi.toNat →
    hi.toNat ≤ 2097151 → ∀ K, spec c fx (P (kw fx)) K
      ⊢ wp frame (wpE (defs₀ (F := F)) 𝒱₀ (c : Thread nD τ) (some k)) E
          (defs₀ (F := F) .tc 2 ⟨v15, h1, Memref.whole cc0_stg0_0, Memref.isWhole_whole _, tv, need, lo, hi⟩) K := by
  intro k
  induction k with
  | zero =>
    intro lo hi hd hlo hT hhi K
    rw [spec_apply]
    show _ ⊢ wp frame (wpE (defs₀ (F := F)) 𝒱₀ (c : Thread nD τ) (some 0)) E
      (cc0_while2 v15 h1 (Memref.whole cc0_stg0_0) (Memref.isWhole_whole _) tv need lo hi) K
    unfold cc0_while2
    have htest : ¬Scalar.cmpi .slt lo hi = 1#1 := by rw [slt_iff lo hi (by omega) (by omega)]; omega
    simp only [htest, ↓reduceIte, Prog.pure_eq_ret]
    iintro ⟨H, Hk⟩
    rw [wp_ret]; imodintro
    iapply Hk
    · ipureintro
      show lo = _
      rw [show P (kw fx) = lo.toNat by omega, BitVec.ofNat_toNat, BitVec.setWidth_eq]
    · iexact H
  | succ k ih =>
    intro lo hi hd hlo hT hhi K
    rw [spec_apply]
    show _ ⊢ wp frame (wpE (defs₀ (F := F)) 𝒱₀ (c : Thread nD τ) (some (k + 1))) E
      (cc0_while2 v15 h1 (Memref.whole cc0_stg0_0) (Memref.isWhole_whole _) tv need lo hi) K
    by_cases hlt : lo.toNat < hi.toNat
    · have htest : Scalar.cmpi .slt lo hi = 1#1 := (slt_iff lo hi (by omega) (by omega)).mpr hlt
      simp only [cc0_while2_eq_skeleton]; unfold cc0_while2_skel
      simp only [htest, ↓reduceIte, Prog.lift, Prog.bind_op, Prog.bind_ret, Prog.pure_eq_ret, midDown_eq]
      unfold held
      iintro ⟨H, Hk⟩
      iapply (loop_wp c (some (k + 1)) E fx k0_t5_loop k0_t5_ok k0_off5 k0_off5_inb (fun i acc v => k0_pay14 tv lo hi i acc v) k0_pay13 _ (fun _ _ => rfl)
        (AddInv (tieWord (kw fx) tv.toNat (midDown lo hi).toNat)) (addInv_zero _)
        (fun i acc h => step_tie tv lo hi i (lt_of_lt_of_eq i.isLt trips5)
          (block_read fx i.val (lt_of_lt_of_eq i.isLt trips5) _ (off5 i) _)
          (by have := midDown_toNat lo hi hlt.le (by omega); omega) h)) $$ H
      iintro %acc %hacc H
      rw [trips5, htv] at hacc
      obtain ⟨h1', h2, h3, h4⟩ := tie_step (kw_small hx) lo hi need hneed hlt hlo hT hhi hacc _ rfl
      generalize Scalar.cmpi .sge (extractAt ![0, 0, 0] (k0_pay15 acc) inpos_S1x1x1_p0_0_0) need = ge at h1' h2 h3 h4 ⊢
      generalize Scalar.select ge lo (Scalar.addi (midDown lo hi) 1#32) = lo' at h1' h2 h3 h4 ⊢
      generalize Scalar.select ge (midDown lo hi) hi = hi' at h1' h2 h3 h4 ⊢
      iapply (wp_call_spec 𝒱₀ (c : Thread nD τ) (some (k + 1)) E (spec c fx (P (kw fx))) k
        (fun u hu => by cases hu; exact Nat.lt_succ_self k)
        (ih lo' hi' (by omega) h1' h2 h3))
      rw [spec_apply]; unfold held
      isplitl [H]; · iexact H
      iintro %r %hr H
      rw [wp_ret]; imodintro
      iapply Hk
      · ipureintro; exact hr
      · iexact H
    · unfold cc0_while2
      have htest : ¬Scalar.cmpi .slt lo hi = 1#1 := by rw [slt_iff lo hi (by omega) (by omega)]; omega
      simp only [htest, ↓reduceIte, Prog.pure_eq_ret]
      iintro ⟨H, Hk⟩
      rw [wp_ret]; imodintro
      iapply Hk
      · ipureintro
        show lo = _
        rw [show P (kw fx) = lo.toNat by omega, BitVec.ofNat_toNat, BitVec.setWidth_eq]
      · iexact H

end Labels

/-! ## The result buffer -/

/-- The threshold and the tie position, as the kernel returns them. -/
def outs (x : S64x32x1024.Idx → BitVec 32) : S2.Idx → BitVec 32 := fun i =>
  if (i 0).val = 0 then BitVec.ofNat 32 (T (kw x)) else BitVec.ofNat 32 (P (kw x))

abbrev r0 : Rect S2 := Rect.unit (s := S2) ![0] S1.size inb_S2_S1_0
abbrev r1 : Rect S2 := Rect.unit (s := S2) ![1] S1.size inb_S2_S1_1

/-- The two words stored make up the result, whatever the buffer held. -/
theorem stores_outs (x : S64x32x1024.Idx → BitVec 32) (f : (cc0_stg1_0 : Ref sig .tc).ty.Contents (Elt F)) (a b : BitVec 32)
    (ha : a = BitVec.ofNat 32 (T (kw x))) (hb : b = BitVec.ofNat 32 (P (kw x))) :
    ((Memref.whole cc0_stg1_0).access r1 : View sig .tc _ _ _).write (Elt F)
      (((Memref.whole cc0_stg1_0).access r0 : View sig .tc _ _ _).write (Elt F) f (fun _ => a) Finset.univ) (fun _ => b) Finset.univ = outs x := by
  funext i
  have e0 : ∀ (j : S1.Idx) g (w : S1.Idx → BitVec 32), ((Memref.whole cc0_stg1_0).access r0 : View sig .tc _ _ _).write (Elt F) g w Finset.univ
      (((Memref.whole cc0_stg1_0).access r0 : View sig .tc _ _ _).emb j) = w j := fun j g w => View.write_emb_of_mem g w (Finset.mem_univ j)
  have e1 : ∀ (j : S1.Idx) g (w : S1.Idx → BitVec 32), ((Memref.whole cc0_stg1_0).access r1 : View sig .tc _ _ _).write (Elt F) g w Finset.univ
      (((Memref.whole cc0_stg1_0).access r1 : View sig .tc _ _ _).emb j) = w j := fun j g w => View.write_emb_of_mem g w (Finset.mem_univ j)
  have hi : (i 0).val < 2 := (i 0).isLt
  by_cases h : (i 0).val = 0
  · have hi0 : i = ((Memref.whole cc0_stg1_0).access r0 : View sig .tc _ _ _).emb (ix1 (n0 := 1) 0) := by
      funext z; fin_cases z; exact Fin.ext h
    have hn : i ∉ ((Memref.whole cc0_stg1_0).access r1 : View sig .tc _ _ _).setOn Finset.univ := by
      intro hm
      obtain ⟨j, -, hj⟩ := Finset.mem_map.mp hm
      have h1 : (i 0).val = 1 + 1 * (j 0).val := by rw [← hj]; rfl
      omega
    refine (View.write_of_not_mem _ _ _ hn).trans ?_
    rw [hi0]
    refine (e0 _ _ _).trans ?_
    rw [← hi0]
    unfold outs
    rw [if_pos h, ha]
  · have hi1 : i = ((Memref.whole cc0_stg1_0).access r1 : View sig .tc _ _ _).emb (ix1 (n0 := 1) 0) := by
      funext z; fin_cases z; exact Fin.ext (by show (i 0).val = 1; omega)
    rw [hi1]
    refine (e1 _ _ _).trans ?_
    rw [← hi1]
    unfold outs
    rw [if_neg h, hb]

/-! ## The body obligation -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The keys as the pipeline fetches them. -/
def xstg (c : Dev nD) : (cc0_stg0_0 : Ref sig .tc).ty.Contents (Elt F) :=
  (win0_0.blk (t0_0)).view.read (Elt F) ((s₀ m ρ).mem ((c : Thread nD τ).loc main_arg0))

/-- The pipeline's data: the keys are only read, the result's buffer holds the two words after the body. -/
def dats (_ : Fin 1) (c : Dev nD) : Dat τ (Elt F) Unit ℕ (UR nD τ) ℕ (cfg0 (F := F)) c where
  A w := (s₀ m ρ).mem (((cfg0 (F := F)).win w).arr.view.loc (c : Thread nD τ))
  after w _ := match w with
    | ⟨0, _⟩ => xstg m ρ c
    | ⟨1, _⟩ => outs (xstg m ρ c)
  Φ _ := iprop(emp)
  q _ := fullShare
  owed _ := 0

theorem owns_whole_eq (c : Dev nD) (b : Ref sig .tc) (X : b.ty.Contents (Elt F)) :
    (owns (Ix := Unit) (Name := ℕ) (U := UR nD τ) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is called with at the one point. -/
def bodyPre (c : Dev nD) : sProp 𝕄 :=
  iprop((dats m ρ 0 c).Φ (t0_0).castSucc ∗ (dats m ρ 0 c).owesAt () (t0_0).castSucc
    ∗ (∃ d, stg c cc0_stg0_0 ((dats m ρ 0 c).before (0 : Fin 2) t0_0 d))
    ∗ (∃ d, stg c cc0_stg1_0 ((dats m ρ 0 c).before (1 : Fin 2) t0_0 d)))

/-- And what it returns. -/
def bodyPost (c : Dev nD) : sProp 𝕄 :=
  iprop((dats m ρ 0 c).Φ (t0_0).succ ∗ (dats m ρ 0 c).owesAt () (t0_0).succ
    ∗ stg c cc0_stg0_0 (xstg m ρ c) ∗ stg c cc0_stg1_0 (outs (xstg m ρ c)))

/-- The end of the body: both words stored. -/
theorem finish (c : Dev nD) (K : PUnit → sProp 𝕄) (a b : BitVec 32) (ha : a = BitVec.ofNat 32 (T (kw (xstg m ρ c))))
    (hb : b = BitVec.ofNat 32 (P (kw (xstg m ρ c)))) (fo : Buf (Elt F) ((c : Thread nD τ).loc cc0_stg1_0))
    (prog : Prog (TpuEff nD τ sig (Elt F) (Λ₀ F) .tc) PUnit)
    (hp : prog = (do
      let _ : Elt F .i32 ← smemLoad (Memref.whole cc0_stg1_0) r0 numel1_S1 rfl
      Prog.lift (.store (Memref.whole cc0_stg1_0) r0 (fun _ => a) Finset.univ (View.stores_smem_one rfl numel1_S1) (.inl rfl))
      let _ : Elt F .i32 ← smemLoad (Memref.whole cc0_stg1_0) r1 numel1_S1 rfl
      Prog.lift (.store (Memref.whole cc0_stg1_0) r1 (fun _ => b) Finset.univ (View.stores_smem_one rfl numel1_S1) (.inl rfl))
      pure ⟨⟩)) :
    iprop((dats m ρ 0 c).Φ (t0_0).castSucc ∗ (dats m ρ 0 c).owesAt () (t0_0).castSucc
        ∗ (((c : Thread nD τ).loc cc0_stg0_0) ↦{fullShare} (xstg m ρ c)) ∗ (((c : Thread nD τ).loc cc0_stg1_0) ↦{fullShare} fo)
        ∗ (bodyPost m ρ c -∗ K ⟨⟩))
      ⊢ wp frame (wpE (defs₀ (F := F)) 𝒱₀ (c : Thread nD τ) none) Set.univ prog K := by
  subst hp
  simp only [smemLoad, smemLoadElt, Prog.lift, Prog.bind_op, Prog.bind_ret, Prog.pure_eq_ret]
  iintro ⟨HΦ, Howes, Hx, Ho, Hk⟩
  iapply (wp_load_rect 𝒱₀ (c : Thread nD τ) none Set.univ (m := Memref.whole cc0_stg1_0) (r := r0) (Finset.subset_univ _)) $$ Ho; iintro Ho
  iapply (wp_store 𝒱₀ (c : Thread nD τ) none Set.univ (m := Memref.whole cc0_stg1_0) (r := r0) (Mk := Finset.univ) (Finset.subset_univ _)) $$ Ho; iintro Ho
  iapply (wp_load_rect 𝒱₀ (c : Thread nD τ) none Set.univ (m := Memref.whole cc0_stg1_0) (r := r1) (Finset.subset_univ _)) $$ Ho; iintro Ho
  iapply (wp_store 𝒱₀ (c : Thread nD τ) none Set.univ (m := Memref.whole cc0_stg1_0) (r := r1) (Mk := Finset.univ) (Finset.subset_univ _)) $$ Ho; iintro Ho
  rw [wp_ret]; imodintro
  iapply Hk
  unfold bodyPost
  rw [show (dats m ρ 0 c).Φ (t0_0).succ = (dats m ρ 0 c).Φ (t0_0).castSucc from rfl,
    show (dats m ρ 0 c).owesAt () (t0_0).succ = (dats m ρ 0 c).owesAt () (t0_0).castSucc from rfl]
  isplitl [HΦ]; · iexact HΦ
  isplitl [Howes]; · iexact Howes
  isplitl [Hx]
  · iexists _; isplitr; · (ipureintro; rfl)
    iexact Hx
  iexists _; isplitr; swap; · iexact Ho
  ipureintro; exact stores_outs (xstg m ρ c) fo a b ha hb

set_option maxHeartbeats 2000000 in
/-- The body at the one point. -/
theorem sound_body (c : Dev nD) (hx : Small (xstg m ρ c)) (K : PUnit → sProp 𝕄) :
    iprop(bodyPre m ρ c ∗ (bodyPost m ρ c -∗ K ⟨⟩))
      ⊢ wp frame (wpE (defs₀ (F := F)) 𝒱₀ (c : Thread nD τ) none) Set.univ
          (cc0__search_body (Memref.whole cc0_stg0_0) (Memref.isWhole_whole _) (Memref.whole cc0_stg1_0) (Memref.isWhole_whole _)) K := by
  simp only [cc0__search_body_eq_skeleton]; unfold cc0__search_body_skel
  unfold bodyPre
  iintro ⟨⟨HΦ, Howes, ⟨%d0, %fx, %hfx, Hx⟩, ⟨%d1, %fo, %hfo, Ho⟩⟩, Hk⟩
  have hxe : fx = xstg m ρ c := by rw [hfx]; unfold Dat.before; exact (if_pos (fetch0_0 (F := F) t0_0)).trans rfl
  subst hxe
  have hW := kw_small hx
  -- the largest key
  iapply (loop_wp c none Set.univ (xstg m ρ c) k0_t1_loop k0_t1_ok k0_off1 k0_off1_inb (fun _ acc v => k0_pay2 acc v) k0_pay1 _ (fun _ _ => rfl)
    (MaxInv (kw (xstg m ρ c))) (maxInv_zero _)
    (fun i acc h => step_max (block_read (xstg m ρ c) i.val (lt_of_lt_of_eq i.isLt trips1) _ (off1 i) _) h)) $$ Hx
  iintro %acc1 %hacc1 Hx
  rw [trips1] at hacc1
  obtain ⟨hT1, hT2⟩ := max_bound hW hacc1
  generalize extractAt ![0, 0, 0] (k0_pay3 acc1) inpos_S1x1x1_p0_0_0 = mx at hT1 hT2 ⊢
  simp only [Prog.lift, Prog.bind_op, Prog.bind_ret]
  -- the threshold
  iapply (wp_call_spec 𝒱₀ (c : Thread nD τ) none Set.univ (spec c (xstg m ρ c) (T (kw (xstg m ρ c)))) mx.toNat (fun u hu => nomatch hu)
    (spec1_le c (xstg m ρ c) hx Set.univ mx.toNat 0#32 mx (Nat.sub_le _ _) (Nat.zero_le _) hT1 hT2))
  rw [spec_apply]; unfold held
  isplitl [Hx]; · iexact Hx
  iintro %r %hr Hx
  obtain ⟨tv, hi1⟩ := r
  have htv : tv = BitVec.ofNat 32 (T (kw (xstg m ρ c))) := hr
  have htvN : tv.toNat = T (kw (xstg m ρ c)) := by
    have := T_le (W := kw (xstg m ρ c))
    rw [htv, BitVec.toNat_ofNat]; omega
  -- the keys above it
  simp only []
  iapply (loop_wp c none Set.univ (xstg m ρ c) k0_t3_loop k0_t3_ok k0_off3 k0_off3_inb (fun _ acc v => k0_pay5 tv acc v) k0_pay4 _ (fun _ _ => rfl)
    (AddInv (geWord (kw (xstg m ρ c)) (tv.toNat + 1))) (addInv_zero _)
    (fun i acc h => step_count hW (block_read (xstg m ρ c) i.val (lt_of_lt_of_eq i.isLt trips3) _ (off3 i) _) tv
      (by have := T_le (W := kw (xstg m ρ c)); omega) h)) $$ Hx
  iintro %acc3 %hacc3 Hx
  rw [trips3, htvN] at hacc3
  have hneed := need_word hW hacc3
  generalize extractAt ![0, 0, 0] (k0_pay6 acc3) inpos_S1x1x1_p0_0_0 = v15 at hneed ⊢
  by_cases h1 : k0_cond1 v15 = 1#1
  · -- one tie needed: the first
    have hR : R (kw (xstg m ρ c)) = 1 := by rw [← hneed]; exact (cond_iff v15).mp h1
    simp only [dif_pos h1, Prog.bind_assoc]
    iapply (loop_wp c none Set.univ (xstg m ρ c) k0_t4_loop k0_t4_ok k0_off4 k0_off4_inb (fun i acc v => k0_pay8 tv i acc v) k0_pay7 _ (fun _ _ => rfl)
      (MinInv (posWord (kw (xstg m ρ c)) tv.toNat)) (minInv_zero _)
      (fun i acc h => step_first tv i (block_read (xstg m ρ c) i.val (lt_of_lt_of_eq i.isLt trips4) _ (off4 i) _) h)) $$ Hx
    iintro %acc4 %hacc4 Hx
    rw [trips4, htvN] at hacc4
    iapply (finish m ρ c K tv _ htv (first_word hW hR hacc4) fo _ rfl)
    isplitl [HΦ]; · iexact HΦ
    isplitl [Howes]; · iexact Howes
    isplitl [Hx]; · iexact Hx
    isplitl [Ho]; · iexact Ho
    iexact Hk
  · -- more ties needed: the bisection
    simp only [dif_neg h1, Prog.lift, Prog.bind_op, Prog.bind_ret]
    iapply (wp_call_spec 𝒱₀ (c : Thread nD τ) none Set.univ (spec c (xstg m ρ c) (P (kw (xstg m ρ c)))) 2097151 (fun u hu => nomatch hu)
      (spec2_le c (xstg m ρ c) hx Set.univ v15 h1 tv (Scalar.subi 2048#32 v15) htvN hneed 2097151 0#32 2097151#32 (Nat.sub_le _ _) (Nat.zero_le _)
        (by have := P_lt hW; show P _ ≤ 2097151; omega) (Nat.le_refl _)))
    rw [spec_apply]; unfold held
    isplitl [Hx]; · iexact Hx
    iintro %r2 %hr2 Hx
    iapply (finish m ρ c K tv _ htv hr2 fo _ rfl)
    isplitl [HΦ]; · iexact HΦ
    isplitl [Howes]; · iexact Howes
    isplitl [Hx]; · iexact Hx
    isplitl [Ho]; · iexact Ho
    iexact Hk

theorem after_0 (c : Dev nD) (t : Fin (cfg0 (F := F)).N) : (dats m ρ 0 c).after 0 t = xstg m ρ c := by
  dsimp only [dats]; rfl
theorem after_1 (c : Dev nD) (t : Fin (cfg0 (F := F)).N) : (dats m ρ 0 c).after 1 t = outs (xstg m ρ c) := by
  dsimp only [dats]; rfl

theorem body_obligation (c : Dev nD) (hx : Small (xstg m ρ c)) :
    BodyObligation (dats (F := F) m ρ 0 c) (defs₀ (F := F)) 𝒱₀ () Set.univ := fun t => by
  rw [show t = t0_0 from fin_N0 t]
  rw [bigSep_W0, bigSep_W0]
  sl_whnfR [defs₀, Defs.onTc]
  simp only [owns_whole_eq]
  simp only [show stage0_0 0 = Memref.whole cc0_stg0_0 from rfl, show stage0_1 0 = Memref.whole cc0_stg1_0 from rfl]
  rw [after_0, after_1]
  iintro H
  iapply (sound_body m ρ c hx fun _ => bodyPost m ρ c)
  unfold bodyPre
  isplitl [H]; · iexact H
  iintro H; iexact H

end Cert.Proof.Body

end
-- ==== Proof.Select.lean ====
/-
  What the reference computes: the last entry of the sorted list of 2048 greatest keys is the threshold, and its position is
  the tie position. With it, the runs of both programs say the same.
-/
module

public import proofs.«01_k».proof.Proof.Order
public import proofs.«01_k».proof.Proof.Body
public import proofs.«01_k».proof.Proof.Gen.SelectionIdeal
public import Idealize.ShloMosaic.Lib.Pointwise.SelectCore
public import Idealize.ShloMosaic.Lib.ValueLayout

@[expose] public section

set_option maxRecDepth 16384

noncomputable section

namespace Cert.Proof.Select

open Cert.SelectionIdeal Cert.SelectionIdeal.Gen Cert.Proof.Rank Cert.Proof.Count
open Idealize.ShloMosaic

/-- The keys laid out flat, row by row. -/
def flat (x : S64x32x1024.Idx → BitVec 32) : S2097152.Idx → BitVec 32 :=
  shapeCast S2097152 (transpose S32x64x1024 [1, 0, 2] x transposes_S64x32x1024_S32x64x1024_1_0_2) shapeCasts_S32x64x1024_S2097152

/-- The two words the reference returns. -/
def refOuts (x : S64x32x1024.Idx → BitVec 32) : S2.Idx → BitVec 32 :=
  concatenate S2 0
    [⟨S1, broadcastInDim S1 ![] bcast_S_S1 (shapeCast S_ (extractStridedSlice S1 ![2047]
      ((Host.topK S2048 0 (IntOp.cmpi .sgt) (flat x) sliceFits_S2097152_S2048).1) slices_S2048_S1_2047) shapeCasts_S1_S_)⟩,
     ⟨S1, broadcastInDim S1 ![] bcast_S_S1 (shapeCast S_ (extractStridedSlice S1 ![2047]
      ((Host.topK S2048 0 (IntOp.cmpi .sgt) (flat x) sliceFits_S2097152_S2048).2) slices_S2048_S1_2047) shapeCasts_S1_S_)⟩]
    concatenates_S1_S1_S2_d0

/-- A flat entry is the key at that position. -/
theorem flat_apply (x : S64x32x1024.Idx → BitVec 32) (p : Fin 2097152) : flat x (.ofFin p) = Body.kw x p.val := by
  have hp := p.isLt
  unfold flat Body.kw
  rw [dif_pos hp]
  refine (shapeCast_apply (s := S32x64x1024) _ _ (Shape.Idx.ofFin p) (ix3 (n0 := 32) (n1 := 64) (n2 := 1024)
    ⟨p.val / 65536, by omega⟩ ⟨p.val % 65536 / 1024, by omega⟩ ⟨p.val % 1024, by omega⟩) ?_).trans ?_
  · rw [Shape.rowMajor_val_three, Shape.rowMajor_val_one]
    show (p.val / 65536 * 64 + p.val % 65536 / 1024) * 1024 + p.val % 1024 = p.val
    omega
  · exact transpose_apply _ x _ _ _ fun c => match c with | ⟨0, _⟩ => rfl | ⟨1, _⟩ => rfl | ⟨2, _⟩ => rfl

/-- One entry of a vector of 2048, sliced out and made a vector of one. -/
theorem entry (y : S2048.Idx → BitVec 32) (i : S1.Idx) :
    broadcastInDim S1 ![] bcast_S_S1 (shapeCast S_ (extractStridedSlice S1 ![2047] y slices_S2048_S1_2047) shapeCasts_S1_S_) i
      = y (.ofFin (2047 : Fin 2048)) := by
  generalize hk : (2047 : Fin 2048) = k
  have hk' : k.val = 2047 := by rw [← hk]; rfl
  unfold broadcastInDim shapeCast extractStridedSlice
  refine congrArg y (funext fun a => Fin.ext ?_)
  match a with
  | ⟨0, _⟩ =>
    refine (?_ : _ = 2047).trans hk'.symm
    refine Nat.add_eq_left.mpr (Nat.lt_one_iff.mp (Fin.isLt _))

variable {x : S64x32x1024.Idx → BitVec 32} (hx : Body.Small x)
include hx

/-- Place 2047 of the sorted keys and positions. -/
theorem last_value : (Host.topK S2048 0 (IntOp.cmpi .sgt) (flat x) sliceFits_S2097152_S2048).1 (.ofFin (2047 : Fin 2048))
    = BitVec.ofNat 32 (T (Body.kw x)) := by
  have hW := Body.kw_small hx
  have hs := topK_read (keyOf (Body.kw x)) (flat x) (fun a => congrArg BitVec.toNat (flat_apply x a))
    (fun a => by have := hW a.val; unfold keyOf; omega) sliceFits_S2097152_S2048 (2047 : Fin 2048) (2047 : Fin 2097152) rfl
  rw [sortedFrom_before (K := 2048) (by omega) (by omega) (key_top hW) (2047 : Fin 2097152) rfl] at hs
  refine hs.1.trans ?_
  rw [flat_apply]
  apply BitVec.eq_of_toNat_eq
  have h1 := key_pos (key := keyOf (Body.kw x)) (K := 2048) (by omega) (by omega) (key_top hW)
  have h2 := T_le (W := Body.kw x)
  rw [BitVec.toNat_ofNat, Nat.mod_eq_of_lt (by omega)]
  exact h1

theorem last_index : (Host.topK S2048 0 (IntOp.cmpi .sgt) (flat x) sliceFits_S2097152_S2048).2 (.ofFin (2047 : Fin 2048))
    = BitVec.ofNat 32 (P (Body.kw x)) := by
  have hW := Body.kw_small hx
  have hs := topK_read (keyOf (Body.kw x)) (flat x) (fun a => congrArg BitVec.toNat (flat_apply x a))
    (fun a => by have := hW a.val; unfold keyOf; omega) sliceFits_S2097152_S2048 (2047 : Fin 2048) (2047 : Fin 2097152) rfl
  rw [sortedFrom_before (K := 2048) (by omega) (by omega) (key_top hW) (2047 : Fin 2097152) rfl] at hs
  exact hs.2

/-- The reference's result is the kernel's. -/
theorem refOuts_eq : refOuts x = Body.outs x := by
  funext j
  unfold refOuts Body.outs
  rw [concatenate_pair_apply]
  have hj : (j 0).val < 2 := (j 0).isLt
  split
  · next h =>
    have h0 : (j 0).val = 0 := by have : (j 0).val < 1 := h; omega
    rw [if_pos h0]
    exact (entry _ _).trans (last_value hx)
  · next h =>
    have h0 : ¬ (j 0).val = 0 := fun e => h (by show (j 0).val < 1; omega)
    rw [if_neg h0]
    exact (entry _ _).trans (last_index hx)

end Cert.Proof.Select

end
-- ==== Proof.Spell.lean ====
/-
  Keys as floats. A word from zero to the word of infinity spells a float that is not negative, and the greater the word,
  the greater the float: so comparing the floats is comparing the words.
-/
module

public import Idealize.ShloMosaic.PureOps.Ideal

@[expose] public section

noncomputable section

namespace Cert.Proof.Spell

open Idealize.ShloMosaic

/-- The word of infinity. -/
abbrev inf : ℕ := 2139095040

/-- A finite float's size in units of the least one: its last 23 bits, or with a leading one scaled by the exponent. -/
def units (n : ℕ) : ℕ := if n / 8388608 = 0 then n % 8388608 else (8388608 + n % 8388608) * 2 ^ (n / 8388608 - 1)

/-- The next word is of a greater size: the last bits grow, or they wrap and the exponent grows. -/
theorem units_lt : StrictMono units := strictMono_nat_of_lt_succ fun n => by
  by_cases hw : n % 8388608 = 8388607
  · have h1 : (n + 1) % 8388608 = 0 := by omega
    have h2 : (n + 1) / 8388608 = n / 8388608 + 1 := by omega
    unfold units
    rw [h1, h2, hw, if_neg (Nat.succ_ne_zero _), Nat.add_sub_cancel]
    split
    · next h => rw [h]; decide
    · next h =>
      have hp : 0 < 2 ^ (n / 8388608 - 1) := Nat.two_pow_pos _
      rw [show n / 8388608 = n / 8388608 - 1 + 1 by omega, pow_succ, Nat.add_sub_cancel]
      omega
  · have h1 : (n + 1) % 8388608 = n % 8388608 + 1 := by omega
    have h2 : (n + 1) / 8388608 = n / 8388608 := by omega
    unfold units
    rw [h1, h2]
    split
    · omega
    · exact Nat.mul_lt_mul_of_pos_right (by omega) (Nat.two_pow_pos _)

/-- The real number that a finite key spells. -/
theorem ofBits_finite (b : BitVec 32) (hb : b.toNat < inf) :
    (Ideal.ofBits .f32 b : EReal) = (((units b.toNat : ℕ) : ℝ) * (2 : ℝ) ^ (-149 : Int) : ℝ) := by
  have hb' : b.toNat < 2139095040 := hb
  have hs : (b.extractLsb' (8 + 23) 1 == 1#1) = false := by
    rw [beq_eq_false_iff_ne]
    intro h
    have := congrArg BitVec.toNat h
    rw [BitVec.extractLsb'_toNat, Nat.shiftRight_eq_div_pow] at this
    norm_num at this
    omega
  have he : (b.extractLsb' 23 8).toNat = b.toNat / 8388608 := by
    rw [BitVec.extractLsb'_toNat, Nat.shiftRight_eq_div_pow]
    norm_num
    omega
  have hf : (b.extractLsb' 0 23).toNat = b.toNat % 8388608 := by
    rw [BitVec.extractLsb'_toNat, Nat.shiftRight_eq_div_pow]
    norm_num
  show Ideal.ieee 8 23 b = _
  unfold Ideal.ieee
  dsimp only
  rw [hs, he, hf, if_neg (show ¬ b.toNat / 8388608 = 2 ^ 8 - 1 by omega)]
  unfold units
  split
  · norm_num
  · next h =>
    congr 1
    have h3 : ((b.toNat / 8388608 : ℕ) : Int) - (2 ^ (8 - 1) - 1) - ((23 : ℕ) : Int) = ((b.toNat / 8388608 - 1 : ℕ) : Int) + (-149) := by
      rw [Nat.cast_sub (by omega)]
      norm_num
      ring
    rw [h3, zpow_add₀ (by norm_num), zpow_natCast]
    push_cast
    norm_num
    ring

/-- The word of infinity spells it. -/
theorem ofBits_inf : (Ideal.ofBits .f32 (BitVec.ofNat 32 inf) : EReal) = ⊤ := by
  show Ideal.ieee 8 23 (BitVec.ofNat 32 inf) = ⊤
  unfold Ideal.ieee
  dsimp only
  rw [if_pos (by decide), if_pos (by decide), if_neg (by decide)]

/-- A greater word spells a greater float. -/
theorem ofBits_lt {a b : BitVec 32} (h : a.toNat < b.toNat) (hb : b.toNat ≤ inf) :
    (Ideal.ofBits .f32 a : EReal) < Ideal.ofBits .f32 b := by
  rw [ofBits_finite a (by omega)]
  rcases Nat.lt_or_eq_of_le hb with h1 | h1
  · rw [ofBits_finite b h1, EReal.coe_lt_coe_iff]
    exact mul_lt_mul_of_pos_right (by exact_mod_cast units_lt h) (by positivity)
  · have e : b = BitVec.ofNat 32 inf := BitVec.eq_of_toNat_eq (by rw [h1]; rfl)
    rw [e, ofBits_inf]
    exact EReal.coe_lt_top _

/-- Comparing floats that keys spell compares the keys. -/
theorem cmp_beq {a b : BitVec 32} (ha : a.toNat ≤ inf) (hb : b.toNat ≤ inf) :
    (FloatOps.cmpfTotal (F := Ideal) (φ := .f32) .gt (FloatOps.ofBits .f32 a) (FloatOps.ofBits .f32 b) == 1#1) = decide (b.toNat < a.toNat) := by
  have h : (Ideal.ofBits .f32 b : EReal) < Ideal.ofBits .f32 a ↔ b.toNat < a.toNat := by
    refine ⟨fun h => ?_, fun h => ofBits_lt h ha⟩
    by_contra hc
    rcases Nat.lt_or_eq_of_le (not_lt.mp hc) with h1 | h1
    · exact absurd (ofBits_lt h1 hb) (lt_asymm h)
    · rw [BitVec.eq_of_toNat_eq h1] at h
      exact lt_irrefl _ h
  show (BitVec.ofBool (decide ((Ideal.ofBits .f32 b : EReal) < Ideal.ofBits .f32 a)) == 1#1) = _
  rw [decide_eq_decide.mpr h]
  cases decide (b.toNat < a.toNat) <;> rfl

end Cert.Proof.Spell

end
-- ==== Proof.Chosen.lean ====
/-
  The reference's sparse array. A top-k of the floats that the keys spell is a top-k of the keys; the scatter of its values
  into zeros holds a key's float where the key is among the first 2048 and zero elsewhere. Where the two words are those of
  the search, that is what the kernel keeps.
-/
module

public import proofs.«01_k».proof.Proof.Select
public import proofs.«01_k».proof.Proof.Decode
public import proofs.«01_k».proof.Proof.Spell
public import Idealize.ShloMosaic.Lib.Routing.OpsSet

@[expose] public section

set_option maxRecDepth 16384

noncomputable section

namespace Cert.Proof.Chosen

open Cert.ReconstructionIdeal Cert.ReconstructionIdeal.Gen Cert.Proof.Rank Cert.Proof.Count
open Idealize.ShloMosaic Idealize.ShloMosaic.Routing

/-- Update `k` of the reference's scatter lands at `x` when its index word, read signed, is `x`. -/
theorem lands (idx : IVec S2048x1 32) (k : S2048.Idx) (x : Fin 2097152) :
    scatter_S2097152_S2048x1_S2048_n_0_0_1.resultIdx? k idx = some (ValueIdx.ix1 x)
      ↔ (idx (ValueIdx.ix2 (n0 := 2048) (n1 := 1) (k 0) 0)).toInt = (x.val : Int) := by
  have hw : scatter_S2097152_S2048x1_S2048_n_0_0_1.window k 0 = 0 := rfl
  have hs : scatter_S2097152_S2048x1_S2048_n_0_0_1.start k idx 0 = (idx (ValueIdx.ix2 (n0 := 2048) (n1 := 1) (k 0) 0)).toInt :=
    congrArg (fun i => (idx i).toInt) (funext fun a => Fin.ext (match a with | ⟨0, _⟩ => rfl | ⟨1, _⟩ => rfl))
  rw [resultIdx?_ix1 (N := 2097152) scatter_S2097152_S2048x1_S2048_n_0_0_1 k idx x, hw, hs]
  omega

/-- The floats that the keys spell, laid out flat. -/
def acts (a : IVec S64x32x1024 32) : FVec Ideal S2097152 .f32 :=
  shapeCast S2097152 (shapeCast S32x65536 (transpose S32x64x1024 [1, 0, 2] (bitcastToFloat (F := Ideal) .f32 a)
    transposes_S64x32x1024_S32x64x1024_1_0_2) shapeCasts_S32x64x1024_S32x65536) shapeCasts_S32x65536_S2097152

/-- The top-k of them, values and places. -/
def best (a : IVec S64x32x1024 32) : FVec Ideal S2048 .f32 × IVec S2048 32 :=
  Host.topK S2048 0 (FloatOps.cmpfTotal (F := Ideal) (φ := .f32) .gt) (acts a) sliceFits_S2097152_S2048

/-- The scatter's index words. -/
def words (a : IVec S64x32x1024 32) : IVec S2048x1 32 :=
  broadcastInDim S2048x1 ![0] bcast_S2048_S2048x1_0
    (select (cmpi .slt (best a).2 (broadcastInDim S2048 ![] bcast_S_S2048 (constantI S_ 32 0#32)))
      (addi (best a).2 (broadcastInDim S2048 ![] bcast_S_S2048 (constantI S_ 32 2097152#32))) (best a).2)

/-- The sparse array. -/
def sparse (a : IVec S64x32x1024 32) : FVec Ideal S2097152 .f32 :=
  Host.scatter scatter_S2097152_S2048x1_S2048_n_0_0_1 (fun _ b => b)
    (broadcastInDim S2097152 ![] bcast_S_S2097152 (constant (F := Ideal) S_ .f32 0x00000000#32)) (words a) (best a).1

/-- The place of entry `k` of the sorted keys. -/
def spot (a : IVec S64x32x1024 32) (k : Fin 2048) : Fin 2097152 := sortedFrom (before (keyOf (Body.kw a))) (k.castLE (by decide))

theorem acts_apply (a : IVec S64x32x1024 32) (p : Fin 2097152) :
    acts a (.ofFin p) = FloatOps.ofBits .f32 (Body.kw a p.val) := by
  have hp := p.isLt
  unfold acts Body.kw
  rw [dif_pos hp]
  refine (shapeCast_apply (s := S32x65536) _ _ (Shape.Idx.ofFin p) (ValueIdx.ix2 (n0 := 32) (n1 := 65536)
    ⟨p.val / 65536, by omega⟩ ⟨p.val % 65536, by omega⟩) ?_).trans
    ((shapeCast_apply (s := S32x64x1024) _ _ _ (ValueIdx.ix3 (n0 := 32) (n1 := 64) (n2 := 1024)
      ⟨p.val / 65536, by omega⟩ ⟨p.val % 65536 / 1024, by omega⟩ ⟨p.val % 1024, by omega⟩) ?_).trans ?_)
  · rw [Shape.rowMajor_val_two, Shape.rowMajor_val_one]
    show p.val / 65536 * 65536 + p.val % 65536 = p.val
    omega
  · rw [Shape.rowMajor_val_three, Shape.rowMajor_val_two]
    show (p.val / 65536 * 64 + p.val % 65536 / 1024) * 1024 + p.val % 1024 = p.val / 65536 * 65536 + p.val % 65536
    omega
  · exact transpose_apply _ (bitcastToFloat (F := Ideal) .f32 a) _ _ (ValueIdx.ix3 (n0 := 64) (n1 := 32) (n2 := 1024)
      ⟨p.val % 65536 / 1024, by omega⟩ ⟨p.val / 65536, by omega⟩ ⟨p.val % 1024, by omega⟩)
      fun c => match c with | ⟨0, _⟩ => rfl | ⟨1, _⟩ => rfl | ⟨2, _⟩ => rfl

variable {a : IVec S64x32x1024 32} (ha : ∀ i, (a i).toNat ≤ Spell.inf)
include ha

theorem kw_inf (p : ℕ) : (Body.kw a p).toNat ≤ Spell.inf := by
  unfold Body.kw
  split
  · exact ha _
  · decide

theorem small : Body.Small a := fun i => Nat.lt_of_le_of_lt (ha i) (by decide)

/-- Entry `k` of the top-k. -/
theorem best_read (k : Fin 2048) :
    (best a).1 (.ofFin k) = FloatOps.ofBits .f32 (Body.kw a (spot a k).val)
      ∧ (best a).2 (.ofFin k) = BitVec.ofNat 32 (spot a k).val := by
  have h := topK_by (keyOf (Body.kw a)) (FloatOps.cmpfTotal (F := Ideal) (φ := .f32) .gt) (acts a)
    (fun p q => by rw [acts_apply, acts_apply]; exact Spell.cmp_beq (kw_inf ha _) (kw_inf ha _))
    sliceFits_S2097152_S2048 k (k.castLE (by decide)) rfl
  exact ⟨h.1.trans (acts_apply a _), h.2⟩

/-- Index word `k`, read signed, is the place of entry `k`. -/
theorem words_read (k : Fin 2048) : (words a (ValueIdx.ix2 (n0 := 2048) (n1 := 1) k 0)).toInt
    = ((spot a k).val : Int) := by
  have hb := (best_read ha k).2
  generalize hn : spot a k = n at hb ⊢
  have hlt := n.isLt
  have e : words a (ValueIdx.ix2 (n0 := 2048) (n1 := 1) k 0)
      = Scalar.select (IntOp.cmpi .slt ((best a).2 (.ofFin k)) 0#32) (IntOp.addi ((best a).2 (.ofFin k)) 2097152#32) ((best a).2 (.ofFin k)) := by
    have hi : (fun b : Fin S2048.rank => (⟨k.val, by have : b = 0 := Subsingleton.elim _ _; subst this; exact k.isLt⟩ : Fin (S2048.size b)))
        = Shape.Idx.ofFin k := rfl
    unfold words broadcastInDim
    refine Eq.trans ?_ (congrArg (fun j : S2048.Idx => Scalar.select (IntOp.cmpi .slt ((best a).2 j) 0#32)
      (IntOp.addi ((best a).2 j) 2097152#32) ((best a).2 j)) hi)
    exact congrArg (select _ _ _) (funext fun b => Fin.ext (by
      have : b = 0 := Subsingleton.elim _ _
      subst this
      rfl))
  rw [e, hb, wrap_of_lt _ _ (by rw [BitVec.toNat_ofNat]; omega)]
  exact StableHlo.Predicate.toInt_ofNat_small _ (by omega)

/-- The sparse array at a place: the key's float if the key exceeds the threshold or equals it not after the tie position. -/
theorem sparse_apply (p : Fin 2097152) : sparse a (.ofFin p)
    = if T (Body.kw a) < keyOf (Body.kw a) p ∨ (keyOf (Body.kw a) p = T (Body.kw a) ∧ p.val ≤ P (Body.kw a))
      then FloatOps.ofBits .f32 (Body.kw a p.val) else 0 := by
  have hf := first_iff (K := 2048) (by omega) (by omega) (key_top (Body.kw_small (small ha))) p
  have hw : ∀ k : S2048.Idx, scatter_S2097152_S2048x1_S2048_n_0_0_1.resultIdx? k (words a) = some (ValueIdx.ix1 p)
      ↔ spot a (k 0) = p := fun k => by
    rw [lands, words_read ha (k 0)]
    exact ⟨fun h => Fin.ext (by exact_mod_cast h), fun h => congrArg (fun n : Fin 2097152 => (n.val : Int)) h⟩
  rw [ofFin_eq_ix1]
  unfold sparse
  split
  · next h =>
    obtain ⟨j, hj, e⟩ := hf.mpr h
    refine scatter_set_hit _ _ _ _ _ _ (fun k hk => ?_) (.ofFin ⟨j.val, hj⟩) ((hw _).mpr e)
    have hk' := (hw k).mp hk
    have hv := (best_read ha (k 0)).1
    replace hv := hv.trans (congrArg (fun n : Fin 2097152 => (FloatOps.ofBits .f32 (Body.kw a n.val) : Ideal .f32)) hk')
    exact (congrArg (best a).1 (ValueIdx.eq_ix1 k)).trans ((congrArg (best a).1 (ofFin_eq_ix1 (k 0)).symm).trans hv)
  · next h =>
    rw [scatter_set_miss _ _ _ _ _ fun k hk => h (hf.mp ⟨_, (k 0).isLt, (hw k).mp hk⟩)]
    show (Ideal.ofBits .f32 0#32 : EReal) = 0
    rw [Spell.ofBits_finite _ (by decide)]
    norm_num [Spell.units]

/-- The sparse array holds what the kernel keeps under the two words of the search. -/
theorem sparse_kept (t : Fin 64) (r : Fin 32) (q : Fin 1024) : sparse a (ValueIdx.ix1 (Decode.flatPlace t r q))
    = Decode.kept (BitVec.ofNat 32 (T (Body.kw a))) (BitVec.ofNat 32 (P (Body.kw a)))
        (a (ValueIdx.ix3 (n0 := 64) (n1 := 32) (n2 := 1024) t r q)) (Decode.place t r q) := by
  have ht := t.isLt
  have hr := r.isLt
  have hq := q.isLt
  have hk : Body.kw a (Decode.flatPlace t r q).val = a (ValueIdx.ix3 (n0 := 64) (n1 := 32) (n2 := 1024) t r q) := by
    unfold Body.kw
    rw [dif_pos (Decode.flatPlace t r q).isLt]
    refine congrArg a (funext fun b => Fin.ext ?_)
    match b with
    | ⟨0, _⟩ => show (r.val * 65536 + (t.val * 1024 + q.val)) % 65536 / 1024 = t.val; omega
    | ⟨1, _⟩ => show (r.val * 65536 + (t.val * 1024 + q.val)) / 65536 = r.val; omega
    | ⟨2, _⟩ => show (r.val * 65536 + (t.val * 1024 + q.val)) % 1024 = q.val; omega
  have hP := P_lt (Body.kw_small (small ha))
  have hT := T_le (W := Body.kw a)
  have hi := kw_inf ha (Decode.flatPlace t r q).val
  have hi' : (Body.kw a (Decode.flatPlace t r q).val).toNat ≤ 2139095040 := hi
  rw [← ofFin_eq_ix1, sparse_apply ha, ← hk]
  unfold keyOf Decode.kept Decode.place
  generalize Body.kw a (Decode.flatPlace t r q).val = x at hi'
  generalize T (Body.kw a) = p at hT
  generalize P (Body.kw a) = u at hP
  have hn : (Decode.flatPlace t r q).val = r.val * 65536 + (t.val * 1024 + q.val) := rfl
  rw [hn]
  generalize hN : r.val * 65536 + (t.val * 1024 + q.val) = n
  have e1 : (BitVec.ofNat 32 p).toNat = p := WordCmp.toNat_ofNat_of_lt (by omega)
  have e2 : (BitVec.ofNat 32 u).toNat = u := WordCmp.toNat_ofNat_of_lt (by omega)
  have e3 : (BitVec.ofNat 32 n).toNat = n := WordCmp.toNat_ofNat_of_lt (by omega)
  rw [WordCmp.cmpi_sgt_of_lt (by omega) (by omega), WordCmp.cmpi_eq_eq_toNat, WordCmp.cmpi_sle_of_lt (by omega) (by omega),
    e1, e2, e3, WordCmp.andi_ofBool, WordCmp.ori_ofBool]
  unfold Scalar.select
  refine if_congr ?_ rfl rfl
  rw [WordCmp.ofBool_eq_one_iff']
  simp only [Bool.or_eq_true, Bool.and_eq_true, decide_eq_true_eq]

/-- The product of the sparse array, block by block, is the kernel's sum. -/
theorem sum_sparse {s : IVec S2 32} (h0 : s (ValueIdx.ix1 0) = BitVec.ofNat 32 (T (Body.kw a)))
    (h1 : s (ValueIdx.ix1 1) = BitVec.ofNat 32 (P (Body.kw a))) {w : FVec Ideal S2048x65536 .f32} (i : S32x2048.Idx) :
    (∑ t : Fin 64, ∑ q : Fin 1024, sparse a (ValueIdx.ix1 (Decode.flatPlace t (i 0) q)) * w (ValueIdx.ix2 (n0 := 2048) (n1 := 65536) (i 1) (Decode.feature t q)) : Ideal .f32)
      = ∑ t : Fin 64, Decode.share (s (ValueIdx.ix1 0)) (s (ValueIdx.ix1 1)) a w t i := by
  rw [h0, h1]
  exact Finset.sum_congr rfl fun t _ => Finset.sum_congr rfl fun q _ =>
    congrArg (fun y : EReal => y * w (ValueIdx.ix2 (n0 := 2048) (n1 := 65536) (i 1) (Decode.feature t q))) (sparse_kept ha t (i 0) q)

end Cert.Proof.Chosen

end
-- ==== Proof.Run.lean ====
/-
  The kernel's run, for any float values: from keys that are all 31-bit and not the greatest such number, every execution
  ends, the keys are as they were, every semaphore counter is zero and the result holds the threshold and the tie position.
-/
module

public import proofs.«01_k».proof.Proof.Body
public import Idealize.ShloMosaic.Lib.Pipeline.KitQuiescent
public import Idealize.ShloMosaic.Lib.Pipeline.Value
public import Idealize.ShloMosaic.Lib.Pipeline.Covers

@[expose] public section

set_option maxRecDepth 16384

noncomputable section

namespace Cert.Proof.Body

open Cert.SearchIdeal Cert.SearchIdeal.Gen Cert.Proof.Words Cert.Proof.Count

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F]

local notation "𝕄" => MT nD τ sig Unit (Elt F) ℕ (UR nD τ) ℕ

variable (m : (ℓ : Loc nD τ sig) → Buf (Elt F) ℓ) (ρ : Dev nD → PrngReg)

/-- The rounds algebra inside the machine's resource. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The element a launch starts from: the staging cells and their transfers' tokens. -/
def u₀ : UR nD τ := initOf (Pipeline.cells (cfgs (F := F)) cellOf_inj) (Pipeline.launchToks (cfgs (F := F)) cellOf_inj)

theorem share_eq (c : Dev nD) (w : Fin (cfg0 (F := F)).W) : (dats m ρ 0 c).share w = fullShare := by
  unfold Dat.share; split <;> rfl

/-- Nothing is held at the first point, -/
theorem phi0_intro (c : Dev nD) : iprop(emp ∗ Pipeline.scopedRest spec0 c) ⊢ (dats m ρ 0 c).Φ 0 := by
  rw [show (dats m ρ 0 c).Φ 0 = BI.emp from rfl, scopedRest0_eq]
  iintro ⟨-, -⟩; iempintro

/-- and nothing at the last. -/
theorem phi1_exit (c : Dev nD) : (dats m ρ 0 c).Φ (Fin.last (cfg0 (F := F)).N) ⊢ iprop(emp ∗ Pipeline.scopedRest spec0 c) := by
  rw [show (dats m ρ 0 c).Φ (Fin.last (cfg0 (F := F)).N) = BI.emp from rfl, scopedRest0_eq]
  iintro -; isplitr <;> iempintro

/-- A window's array after the run. -/
def finalA (c : Dev nD) (w : Fin (cfg0 (F := F)).W) : Buf (Elt F) (((cfg0 (F := F)).win w).arr.view.loc (c : Thread nD τ)) :=
  (dats m ρ 0 c).arrAt w (cfg0 (F := F)).N

/-- Every window's array holds what is computed for it. -/
def QC : PUnit × MemSt nD τ sig (Elt F) → Prop := fun r =>
  ∀ (c : Dev nD) (w : Fin (cfg0 (F := F)).W), r.2.mem (((cfg0 (F := F)).win w).arr.view.loc (c : Thread nD τ)) = finalA m ρ c w

theorem run_windows (hx : ∀ c, Small (xstg m ρ c)) :
    θ_run defs (onTc (τ := τ) (main (F := F))) (s₀ m ρ) (fun r => QC m ρ r ∧ r.2.sem = fun _ => 0) :=
  Pipeline.θ_run_region_noSem_kit_quiescent cfgs (dats m ρ) () (0 : Fin 1) launch0 EP defs₀ 𝒱₀ m ρ main
    (hbody := fun c => body_obligation m ρ c (hx c)) (hshare := share_eq m ρ) (howed := fun _ _ => rfl)
    (u₀ := u₀) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := phi0_intro m ρ) (hout := phi1_exit m ρ)
    (QY := fun _ _ => True)
    (hY := fun c s' => by
      iintro ⟨-, -, HSI⟩; imodintro
      isplitr; · ipureintro; trivial
      iexact HSI)
    (hQ := fun _ h hz => ⟨fun c w => (h c).1 w, hz⟩)

/-- The staged keys are the argument. -/
theorem xstg_eq (c : Dev nD) : xstg m ρ c = m ((c : Thread nD τ).loc main_arg0) := by
  funext i
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem final_keys (c : Dev nD) : finalA m ρ c (0 : Fin 2) = m ((c : Thread nD τ).loc main_arg0) :=
  (dats (F := F) m ρ 0 c).arrAt_in (0 : Fin 2) rfl _

/-- The one point writes the whole result. -/
theorem whole_1 : ((cfg0 (F := F)).win (1 : Fin 2)).WholeAt t0_0 := (by decide +kernel : win0_1.WholeAt t0_0)

theorem final_result (c : Dev nD) : finalA m ρ c (1 : Fin 2) = outs (m ((c : Thread nD τ).loc main_arg0)) := by
  rw [← xstg_eq m ρ c]
  refine (dats m ρ 0 c).arrAt_eq_of_after_last (1 : Fin 2) t0_0 whole_1 _ fun j => ?_
  rw [after_1]
  rfl

/-- The run: the result, the keys and the counters. -/
theorem run_main (hx : ∀ c : Dev nD, Small (m ((c : Thread nD τ).loc main_arg0))) :
    θ_run defs (onTc (τ := τ) (main (F := F))) ⟨m, fun _ => 0, ρ⟩ (fun r => (∀ c : Dev nD,
      r.2.mem ((c.tc : Thread nD τ).loc main_v0) = outs (m ((c : Thread nD τ).loc main_arg0))
      ∧ r.2.mem ((c.tc : Thread nD τ).loc main_arg0) = m ((c.tc : Thread nD τ).loc main_arg0)) ∧ r.2.sem = fun _ => 0) :=
  (θ_run defs _ _).mono
    (fun _ h => ⟨fun c => ⟨(h.1 c (1 : Fin 2)).trans (final_result m ρ c), (h.1 c (0 : Fin 2)).trans (final_keys m ρ c)⟩, h.2⟩)
    (run_windows m ρ fun c => (xstg_eq m ρ c).symm ▸ hx c)

end Cert.Proof.Body

end
-- ==== Proof.Relabel.lean ====
/-
  A program whose calls' arguments are replaced, label by label, runs as it did. The machine reads a call's arguments only
  to look its body up, so under a table that holds the replaced bodies at the replaced arguments each step of the one
  program is a step of the other (`θ_run_of_prog`); a family of pipelines is replaced in the same way (`defs_prog`). It
  carries the kernel's run over to a program that is the same text but states the arguments of its loops by records of
  its own.
-/
module

public import Idealize.ShloMosaic.Machine.Run
public import Idealize.ShloMosaic.Lib.Pipeline
public import Idealize.ShloMosaic.Lib.Scf

@[expose] public section

namespace Cert.Proof.Relabel

open Idealize.ShloMosaic Idealize.SL.Sem
open Idealize.ShloMosaic.Pipeline (Cfg)

variable {nD : Nat} {τ : Topo} {sig : RefSig} {Val : EltTy → Type} {Λ Λ' : Labels}

/-- What a call becomes: its label, its arguments, and how its result is read. -/
structure Map (Λ Λ' : Labels) where
  lab : Λ.Label → Λ'.Label
  arg : ∀ ℓ, Λ.Args ℓ → Λ'.Args (lab ℓ)
  res : ∀ ℓ, Λ'.Result (lab ℓ) → Λ.Result ℓ

variable (f : Map Λ Λ')

/-- An effect with a call replaced, and how its answer is read. -/
def eff {p : Proc τ} : ∀ {β : Type}, TpuEff nD τ sig Val Λ p β → (γ : Type) × TpuEff nD τ sig Val Λ' p γ × (γ → β)
  | _, .load m r h => ⟨_, .load m r h, id⟩
  | _, .store m r w M h hm => ⟨_, .store m r w M h hm, id⟩
  | _, .havoc m => ⟨_, .havoc m, id⟩
  | _, .deviceId => ⟨_, .deviceId, id⟩
  | _, .assume φ d => ⟨_, .assume φ d, id⟩
  | _, .semSignal dst sem n => ⟨_, .semSignal dst sem n, id⟩
  | _, .dmaSemSignal sem n => ⟨_, .dmaSemSignal sem n, id⟩
  | _, .semWait sem n => ⟨_, .semWait sem n, id⟩
  | _, .semRead sem => ⟨_, .semRead sem, id⟩
  | _, .enqueueDmaAs src tgt via sem hsrc hdst hsem => ⟨_, .enqueueDmaAs src tgt via sem hsrc hdst hsem, id⟩
  | _, .waitDma sem b s e hk => ⟨_, .waitDma sem b s e hk, id⟩
  | _, .enqueueIndirectDma hp offs hn sem row => ⟨_, .enqueueIndirectDma hp offs hn sem row, id⟩
  | _, .prngSeed hp ws h => ⟨_, .prngSeed hp ws h, id⟩
  | _, .prngDraw hp t => ⟨_, .prngDraw hp t, id⟩
  | _, .hloBegin hp op => ⟨_, .hloBegin hp op, id⟩
  | _, .hloEnd hp W => ⟨_, .hloEnd hp W, id⟩
  | _, .call ℓ a => ⟨_, .call (f.lab ℓ) (f.arg ℓ a), f.res ℓ⟩
  | _, .customCall ℓ a => ⟨_, .customCall (f.lab ℓ) (f.arg ℓ a), f.res ℓ⟩
  | _, .kernelExit => ⟨_, .kernelExit, id⟩

/-- A program with every call replaced. -/
def prog {p : Proc τ} {α : Type} : Prog (TpuEff nD τ sig Val Λ p) α → Prog (TpuEff nD τ sig Val Λ' p) α
  | .ret a => .ret a
  | .op e k => .op (eff f e).2.1 fun x => prog (k ((eff f e).2.2 x))

section Prog

variable {p : Proc τ} {α β : Type}

theorem prog_ret (a : α) : prog f (.ret a : Prog (TpuEff nD τ sig Val Λ p) α) = .ret a := rfl

theorem prog_op (e : TpuEff nD τ sig Val Λ p β) (k : β → Prog (TpuEff nD τ sig Val Λ p) α) :
    prog f (.op e k) = .op (eff f e).2.1 fun x => prog f (k ((eff f e).2.2 x)) := rfl

theorem prog_bind (q : Prog (TpuEff nD τ sig Val Λ p) α) (k : α → Prog (TpuEff nD τ sig Val Λ p) β) :
    prog f (q >>= k) = prog f q >>= fun x => prog f (k x) := by
  induction q with
  | ret a => rfl
  | op e k' ih => simp only [Prog.bind_op, prog_op, ih]

theorem prog_for {w : Nat} (l : Scf.Loop w) (hok : l.OK) (init : α) (body : Fin l.trips → α → Prog (TpuEff nD τ sig Val Λ p) α) :
    prog f (Scf.Loop.for l hok init body) = Scf.Loop.for l hok init fun k a => prog f (body k a) := by
  rw [Scf.Loop.for, Scf.Loop.for, Scf.for_eq, Scf.for_eq]
  generalize List.finRange _ = ks
  induction ks generalizing init with
  | nil => rfl
  | cons k ks ih => simp only [Scf.forFrom_cons, prog_bind, ih]

theorem prog_ite (c : Prop) [Decidable c] (q r : Prog (TpuEff nD τ sig Val Λ p) α) :
    prog f (if c then q else r) = if c then prog f q else prog f r := by split <;> rfl

theorem prog_dite (c : Prop) [Decidable c] (q : c → Prog (TpuEff nD τ sig Val Λ p) α) (r : ¬c → Prog (TpuEff nD τ sig Val Λ p) α) :
    prog f (if h : c then q h else r h) = if h : c then prog f (q h) else prog f (r h) := by split <;> rfl

end Prog

/-! ## The run -/

section Run

/-- A running state with every call's arguments replaced in what is left of its programs. -/
def state (m : RunSt nD τ sig Val Λ) : RunSt nD τ sig Val Λ' := ⟨m.toPhys, fun c => (m.prog c).map (prog f)⟩

theorem state_setProg (m : RunSt nD τ sig Val Λ) (c : Thread nD τ) (q : Option (Prog (TpuEff nD τ sig Val Λ c.2) PUnit)) :
    state f (m.setProg c q) = (state f m).setProg c (q.map (prog f)) := by
  refine congrArg (RunSt.mk m.toPhys) (funext fun d => ?_)
  show (Function.update m.prog c q d).map (prog f) = Function.update (fun d => (m.prog d).map (prog f)) c (q.map (prog f)) d
  by_cases h : d = c
  · subst h; rw [Function.update_self, Function.update_self]
  · rw [Function.update_of_ne h, Function.update_of_ne h]

theorem final_iff {m : RunSt nD τ sig Val Λ} : Final (state f m) ↔ Final m :=
  forall_congr' fun _ => Option.map_eq_none_iff

variable (D : Defs nD τ sig Val Λ) (D' : Defs nD τ sig Val Λ')
  (hD : ∀ pr ℓ a {α : Type} (k : Λ.Result ℓ → Prog (TpuEff nD τ sig Val Λ' pr) α),
    (D' pr (f.lab ℓ) (f.arg ℓ a) >>= fun x => k (f.res ℓ x)) = prog f (D pr ℓ a) >>= k)

include hD in
/-- One step of a thread whose program has its arguments replaced is the program's step, its arguments replaced. -/
theorem coreStepInner_state (c : Thread nD τ) (m : RunSt nD τ sig Val Λ) (ω : Valuation τ sig Val) (q : Prog (TpuEff nD τ sig Val Λ c.2) PUnit) :
    coreStepInner D' c (state f m) ω (prog f q) = (coreStepInner D c m ω q).map fun r => (r.1.map (prog f), state f r.2) := by
  cases q with
  | ret a => rfl
  | op e k =>
    cases e with
    | call ℓ a =>
      show some (some (D' c.2 (f.lab ℓ) (f.arg ℓ a) >>= fun x => prog f (k (f.res ℓ x))), state f m) = some (some (prog f (D c.2 ℓ a >>= k)), state f m)
      rw [hD c.2 ℓ a (fun x => prog f (k x)), prog_bind]
    | customCall ℓ a =>
      show some (some (D' c.2 (f.lab ℓ) (f.arg ℓ a) >>= fun r => .op .kernelExit fun _ => prog f (k (f.res ℓ r))), (state f m).withPhys (m.toPhys.forget c ω))
        = some (some (prog f (D c.2 ℓ a >>= fun r => .op .kernelExit fun _ => k r)), state f (m.withPhys (m.toPhys.forget c ω)))
      rw [hD c.2 ℓ a (fun r => .op .kernelExit fun _ => prog f (k r)), prog_bind]
      rfl
    | assume φ d => cases d <;> rfl
    | _ =>
      first
        | rfl
        | (show Option.map _ (effStep c m.toPhys ω _) = Option.map _ (Option.map _ (effStep c m.toPhys ω _))
           rw [Option.map_map]
           rfl)

include hD in
theorem coreStep_state (c : Thread nD τ) (m : RunSt nD τ sig Val Λ) (ω : Valuation τ sig Val) :
    coreStep D' c (state f m) ω = (coreStep D c m ω).map fun r => (r.1.map (prog f), state f r.2) := by
  show ((m.prog c).map (prog f)).bind (coreStepInner D' c (state f m) ω) = ((m.prog c).bind (coreStepInner D c m ω)).map _
  cases m.prog c with
  | none => rfl
  | some q => exact coreStepInner_state f D D' hD c m ω q

include hD in
/-- A step of the program is a step of the one with its arguments replaced, -/
theorem step_state {a : Agent nD τ} {s s' : RunSt nD τ sig Val Λ} (h : MeshStep D a s s') : MeshStep D' a (state f s) (state f s') := by
  cases h with
  | core c ω hc =>
    rw [state_setProg]
    exact .core c ω (by rw [coreStep_state f D D' hD, hc]; rfl)
  | dmaRead i M alt hd hM => exact .dmaRead (m := state f s) i M alt hd hM
  | dmaWrite i M hd hM => exact .dmaWrite (m := state f s) i M hd hM
  | dmaPaySrc i k hd hk => exact .dmaPaySrc (m := state f s) i k hd hk
  | dmaPayDst i k hd hk => exact .dmaPayDst (m := state f s) i k hd hk
  | dmaRetire i hd hk => exact .dmaRetire (m := state f s) i hd hk
  | serve i k alt hd hk => exact .serve (m := state f s) i k alt hd hk
  | deliver i hd => exact .deliver (m := state f s) i hd

include hD in
/-- and the other way round. -/
theorem step_of_state {a : Agent nD τ} {s : RunSt nD τ sig Val Λ} {t : RunSt nD τ sig Val Λ'} (h : MeshStep D' a (state f s) t) :
    ∃ s', t = state f s' ∧ MeshStep D a s s' := by
  generalize hs : state f s = u at h
  cases h with
  | core c ω hc =>
    subst hs
    rw [coreStep_state f D D' hD] at hc
    obtain ⟨⟨p', m'⟩, h0, h1⟩ := Option.map_eq_some_iff.mp hc
    cases h1
    exact ⟨m'.setProg c p', (state_setProg f m' c p').symm, .core c ω h0⟩
  | dmaRead i M alt hd hM => subst hs; exact ⟨_, rfl, .dmaRead (m := s) i M alt hd hM⟩
  | dmaWrite i M hd hM => subst hs; exact ⟨_, rfl, .dmaWrite (m := s) i M hd hM⟩
  | dmaPaySrc i k hd hk => subst hs; exact ⟨_, rfl, .dmaPaySrc (m := s) i k hd hk⟩
  | dmaPayDst i k hd hk => subst hs; exact ⟨_, rfl, .dmaPayDst (m := s) i k hd hk⟩
  | dmaRetire i hd hk => subst hs; exact ⟨_, rfl, .dmaRetire (m := s) i hd hk⟩
  | serve i k alt hd hk => subst hs; exact ⟨_, rfl, .serve (m := s) i k alt hd hk⟩
  | deliver i hd => subst hs; exact ⟨_, rfl, .deliver (m := s) i hd⟩

include hD in
theorem reaches_state {s s' : RunSt nD τ sig Val Λ} (h : Reaches D s s') : Reaches D' (state f s) (state f s') := by
  unfold Reaches at h ⊢
  induction h with
  | refl => exact .refl
  | tail _ hst ih =>
    obtain ⟨hn, a, hs⟩ := hst
    exact ih.tail ⟨fun hf => hn ((final_iff f).mp hf), a, step_state f D D' hD hs⟩

include hD in
/-- What holds of every fair execution with the arguments replaced holds of every fair execution. -/
theorem θ_run_of_prog (p : (c : Thread nD τ) → Prog (TpuEff nD τ sig Val Λ c.2) PUnit) (s : MemSt nD τ sig Val)
    (Q : PUnit × MemSt nD τ sig Val → Prop) (h : θ_run D' (fun c => prog f (p c)) s Q) : θ_run D p s Q := by
  have key : ∀ {Q : MemSt nD τ sig Val → Prop} {s₀ : RunSt nD τ sig Val Λ}, MeshRun D' Q (state f s₀) → MeshRun D Q s₀ := fun {Q s₀} h =>
    { post := fun s hr hf => h.post (state f s) (reaches_state f D D' hD hr) ((final_iff f).mpr hf)
      progress := fun s hr hn => by
        obtain ⟨a, t, ht⟩ := h.progress (state f s) (reaches_state f D D' hD hr) (fun hf => hn ((final_iff f).mp hf))
        obtain ⟨s', -, hs'⟩ := step_of_state f D D' hD ht
        exact ⟨a, s', hs'⟩
      fair := fun ρ hρ =>
        h.fair ⟨fun n => state f (ρ.st n), ρ.ag, by rw [ρ.head],
            fun n => ⟨fun hf => (ρ.step n).1 ((final_iff f).mp hf), step_state f D D' hD (ρ.step n).2⟩⟩
          fun a n hen => hρ a n fun m hm => by
            obtain ⟨t, ht⟩ := hen m hm
            obtain ⟨s', -, hs'⟩ := step_of_state f D D' hD ht
            exact ⟨s', hs'⟩ }
  exact key h

end Run

/-! ## Pipelines -/

section Pipeline

variable {P : Type} {Ad : P → Type}

/-- The replacement on the labels with the pipelines' own: those are kept. -/
def outer (Ad : P → Type) : Map (Pipeline.Sig Λ P Ad) (Pipeline.Sig Λ' P Ad) where
  lab := fun
    | .inl ℓ => .inl (f.lab ℓ)
    | .inr ℓ => .inr ℓ
  arg := fun
    | .inl ℓ => f.arg ℓ
    | .inr _ => id
  res := fun
    | .inl ℓ => f.res ℓ
    | .inr _ => id

/-- A pipeline with its body's call replaced. -/
abbrev cfg (c : Cfg sig Λ) : Cfg sig Λ' where
  grid := c.grid
  W := c.W
  win := c.win
  body := f.lab c.body
  bodyArgs t s := f.arg c.body (c.bodyArgs t s)
  loose := c.loose
  idle := c.idle

theorem lift_prog {pr : Proc τ} {α : Type} (q : Prog (TpuEff nD τ sig Val Λ pr) α) :
    Pipeline.liftProg (P := P) (A := Ad) (prog f q) = prog (outer f Ad) (Pipeline.liftProg (P := P) (A := Ad) q) := by
  induction q with
  | ret a => rfl
  | op e k ih =>
    show Prog.op (eff f e).2.1.inl (fun x => Pipeline.liftProg (P := P) (A := Ad) (prog f (k ((eff f e).2.2 x))))
      = Prog.op (eff (outer f Ad) e.inl).2.1 (fun x => prog (outer f Ad) (Pipeline.liftProg (P := P) (A := Ad) (k ((eff (outer f Ad) e.inl).2.2 x))))
    cases e <;> exact congrArg (Prog.op _) (funext fun x => ih _)

local notation "𝔼" => TpuEff nD τ sig Val (Pipeline.Sig Λ P Ad) Proc.tc
local notation "𝔼'" => TpuEff nD τ sig Val (Pipeline.Sig Λ' P Ad) Proc.tc

theorem eachWin_prog (c : Cfg sig Λ) (b : Fin c.W → Bool) (g : Fin c.W → Prog 𝔼 PUnit → Prog 𝔼 PUnit) (g' : Fin c.W → Prog 𝔼' PUnit → Prog 𝔼' PUnit)
    (k : Prog 𝔼 PUnit) (k' : Prog 𝔼' PUnit) (hg : ∀ w k, prog (outer f Ad) (g w k) = g' w (prog (outer f Ad) k)) (hk : prog (outer f Ad) k = k') :
    prog (outer f Ad) (c.eachWin b g k) = (cfg f c).eachWin b g' k' := by
  subst hk
  unfold Cfg.eachWin
  show _ = (List.finRange c.W).foldr _ _
  induction List.finRange c.W with
  | nil => rfl
  | cons w ws ih =>
    rw [List.foldr_cons, List.foldr_cons, ← ih]
    split
    · exact hg w _
    · rfl

theorem fetchIn_prog (c : Cfg sig Λ) (w : Fin c.W) (t : Fin c.N) (k : Prog 𝔼 PUnit) :
    prog (outer f Ad) (c.fetchIn w t k) = (cfg f c).fetchIn w t (prog (outer f Ad) k) := by
  unfold Cfg.fetchIn
  show _ = match (c.win w).clipped (c.grid.coords t) with | true => _ | false => _
  cases (c.win w).clipped (c.grid.coords t) <;> rfl

theorem atPoint_prog (c : Cfg sig Λ) (t d : Nat) (g : Fin c.N → Prog 𝔼 PUnit → Prog 𝔼 PUnit) (g' : Fin c.N → Prog 𝔼' PUnit → Prog 𝔼' PUnit)
    (k : Prog 𝔼 PUnit) (k' : Prog 𝔼' PUnit) (hg : ∀ u k, prog (outer f Ad) (g u k) = g' u (prog (outer f Ad) k)) (hk : prog (outer f Ad) k = k') :
    prog (outer f Ad) (c.atPoint t d g k) = (cfg f c).atPoint t d g' k' := by
  subst hk
  unfold Cfg.atPoint
  have h : (cfg f c).point t d = c.point t d := rfl
  rw [h]
  cases c.point t d with
  | none => rfl
  | some u => exact hg u k

theorem iter_prog (c : Cfg sig Λ) (p : P) (a : Ad p) (t : Nat) :
    prog (outer f Ad) (c.iter p a t : Prog 𝔼 PUnit) = (cfg f c).iter p a t := by
  unfold Cfg.iter
  dsimp only
  refine atPoint_prog f c _ _ _ _ _ _ (fun u k => eachWin_prog f c _ _ _ _ _ (fun w k => fetchIn_prog f c w u k) rfl) ?_
  refine atPoint_prog f c _ _ _ _ _ _ (fun u k => eachWin_prog f c _ _ _ _ _ (fun w k => fetchIn_prog f c w u k) rfl) ?_
  refine atPoint_prog f c _ _ _ _ _ _ (fun u k => eachWin_prog f c _ _ _ _ _ (fun w k => rfl) (congrArg (Prog.op _) (funext fun _ =>
    eachWin_prog f c _ _ _ _ _ (fun w k => rfl) (eachWin_prog f c _ _ _ _ _ (fun w k => rfl) rfl)))) ?_
  refine atPoint_prog f c _ _ _ _ _ _ (fun u k => eachWin_prog f c _ _ _ _ _ (fun w k => rfl) rfl) ?_
  exact prog_ite _ _ _ _

theorem straight_prog (c : Cfg sig Λ) (h : c.N = 1) :
    prog (outer f Ad) (c.straight h : Prog 𝔼 PUnit) = (cfg f c).straight h := by
  unfold Cfg.straight
  dsimp only
  refine eachWin_prog f c _ _ _ _ _ (fun w k => fetchIn_prog f c w _ k) ?_
  refine eachWin_prog f c _ _ _ _ _ (fun w k => rfl) (congrArg (Prog.op _) (funext fun _ => ?_))
  exact eachWin_prog f c _ _ _ _ _ (fun w k => rfl) (eachWin_prog f c _ _ _ _ _ (fun w k => rfl) rfl)

theorem runAt_prog (c : Cfg sig Λ) (p : P) (a : Ad p) :
    prog (outer f Ad) (c.runAt p a : Prog 𝔼 PUnit) = (cfg f c).runAt p a := by
  unfold Cfg.runAt
  rw [prog_ite, prog_dite]
  simp only [straight_prog]
  rfl

/-- A pipeline that has no prefetched table: its contents are the one empty table. -/
abbrev Adm (cs : P → Cfg sig Λ) (p : P) : Type := ((cs p).toPCfg (Val := Val)).Adm

/-- The table of a family of pipelines, its calls replaced, is the table of the family with its bodies' calls replaced. -/
theorem defs_prog (cs : P → Cfg sig Λ) (D₀ : Defs nD τ sig Val Λ) (D₀' : Defs nD τ sig Val Λ')
    (hD : ∀ pr ℓ a {α : Type} (k : Λ.Result ℓ → Prog (TpuEff nD τ sig Val (Pipeline.Sig Λ' P (Adm (Val := Val) cs)) pr) α),
      (Pipeline.liftProg (D₀' pr (f.lab ℓ) (f.arg ℓ a)) >>= fun x => k (f.res ℓ x)) = Pipeline.liftProg (prog f (D₀ pr ℓ a)) >>= k)
    (pr : Proc τ) (ℓ : (Pipeline.Sig Λ P (Adm (Val := Val) cs)).Label) (a : (Pipeline.Sig Λ P (Adm (Val := Val) cs)).Args ℓ) {α : Type}
    (k : (Pipeline.Sig Λ P (Adm (Val := Val) cs)).Result ℓ → Prog (TpuEff nD τ sig Val (Pipeline.Sig Λ' P (Adm (Val := Val) cs)) pr) α) :
    (Pipeline.defs (fun p => (cfg f (cs p)).toPCfg) D₀' pr ((outer f (Adm cs)).lab ℓ) ((outer f (Adm cs)).arg ℓ a)
        >>= fun x => k ((outer f (Adm cs)).res ℓ x))
      = prog (outer f (Adm cs)) (Pipeline.defs (fun p => (cs p).toPCfg) D₀ pr ℓ a) >>= k := by
  match pr, ℓ, a with
  | pr, .inl ℓ, a => exact (hD pr ℓ a k).trans (congrArg (· >>= k) (lift_prog f _))
  | .tc, .inr (.entry p), a =>
    refine congrArg (· >>= k) (congrArg (Prog.op _) (funext fun h => ?_))
    exact (runAt_prog f (cs p) p _).symm
  | .tc, .inr (.pipe p), (a, t) => exact congrArg (· >>= k) (iter_prog f (cs p) p a t).symm
  | .scScalar _, .inr (.entry p), a => rfl
  | .scScalar _, .inr (.pipe p), a => rfl
  | .scVector _ _, .inr (.entry p), a => rfl
  | .scVector _ _, .inr (.pipe p), a => rfl

end Pipeline

end Cert.Proof.Relabel
-- ==== Proof.Same.lean ====
/-
  `Search` and `SearchIdeal` are one text, but each states the arguments of its two loops by records of its own. The one's
  programs with these records replaced are the other's, so a run of `SearchIdeal` is a run of `Search`.
-/
module

public import proofs.«01_k».proof.Proof.Relabel
public import proofs.«01_k».proof.Proof.Gen.Search
public import proofs.«01_k».proof.Proof.Gen.Search.Skeleton
public import proofs.«01_k».proof.Proof.Gen.SearchIdeal
public import proofs.«01_k».proof.Proof.Gen.SearchIdeal.Skeleton

@[expose] public section

set_option maxRecDepth 16384

noncomputable section

namespace Cert.Proof.Same

open Idealize.ShloMosaic Idealize.ShloMosaic.TcCoe Idealize.SL.Sem
open Cert.Proof.Relabel

variable {F : FTy → Type} [FloatOps F]

/-- The loops' records, one program's for the other's. -/
def f : Map (Cert.Search.Λ₀ F) (Cert.SearchIdeal.Λ₀ F) where
  lab := id
  arg := fun
    | 0 => fun a => a
    | 1 => fun a => ⟨a.arg0, a.harg0, a.arg2, a.arg3⟩
    | 2 => fun a => ⟨a.v15, a.k0_h1, a.arg0, a.harg0, a.v7_0, a.v16, a.arg2, a.arg3⟩
    | ⟨_ + 3, h⟩ => absurd h (Nat.not_lt.2 (Nat.le_add_left _ _))
  res := fun
    | 0 => fun a => a
    | 1 => fun a => a
    | 2 => fun a => a
    | ⟨_ + 3, h⟩ => absurd h (Nat.not_lt.2 (Nat.le_add_left _ _))

/-- Two steps that agree, followed by what agrees. -/
theorem bind_congr {E : Type → Type} {α β : Type} {q q' : Prog E α} {k k' : α → Prog E β} (h : q = q') (hk : ∀ v, k v = k' v) :
    (q >>= k) = (q' >>= k') := by rw [h, funext hk]

/-- A branch whose arms agree. -/
theorem dite_congr' {c : Prop} [Decidable c] {α : Type 1} {a a' : c → α} {b b' : ¬c → α} (ha : ∀ h, a h = a' h) (hb : ∀ h, b h = b' h) :
    dite c a b = dite c a' b' := by rw [funext ha, funext hb]

theorem while1 (arg0 : Memref Cert.Search.sig .tc .vmem Cert.Search.S64x32x1024 .i32) (harg0 : arg0.IsWhole) (arg2 arg3 : BitVec 32) :
    prog f (Cert.Search.cc0_while1 (F := F) arg0 harg0 arg2 arg3) = Cert.SearchIdeal.cc0_while1 (F := F) arg0 harg0 arg2 arg3 := by
  rw [Cert.Search.Gen.cc0_while1_eq_skeleton, Cert.SearchIdeal.Gen.cc0_while1_eq_skeleton]
  unfold Cert.Search.Gen.cc0_while1_skel Cert.SearchIdeal.Gen.cc0_while1_skel
  simp only [prog_ite, prog_bind, prog_for]
  rfl

theorem while2 (v15 : BitVec 32) (h : ¬Cert.Search.k0_cond1 v15 = 1#1) (arg0 : Memref Cert.Search.sig .tc .vmem Cert.Search.S64x32x1024 .i32)
    (harg0 : arg0.IsWhole) (v7_0 v16 arg2 arg3 : BitVec 32) :
    prog f (Cert.Search.cc0_while2 (F := F) v15 h arg0 harg0 v7_0 v16 arg2 arg3)
      = Cert.SearchIdeal.cc0_while2 (F := F) v15 h arg0 harg0 v7_0 v16 arg2 arg3 := by
  rw [Cert.Search.Gen.cc0_while2_eq_skeleton, Cert.SearchIdeal.Gen.cc0_while2_eq_skeleton]
  unfold Cert.Search.Gen.cc0_while2_skel Cert.SearchIdeal.Gen.cc0_while2_skel
  simp only [prog_ite, prog_bind, prog_for]
  rfl

/-- A call of the first loop, its record replaced. -/
theorem call1 (arg0 : Memref Cert.Search.sig .tc .vmem Cert.Search.S64x32x1024 .i32) (harg0 : arg0.IsWhole) (arg2 arg3 arg3' : BitVec 32) (e : arg3 = arg3') :
    prog (f (F := F)) (Prog.lift (.call (1 : (Cert.Search.Λ₀ F).Label) (⟨arg0, harg0, arg2, arg3⟩ : Cert.Search.Cc0While1 F)) :
        Prog (TpuEff Cert.Search.nD Cert.Search.τ Cert.Search.sig (Elt F) (Cert.Search.Λ₀ F) .tc) (BitVec 32 × BitVec 32))
      = Prog.lift (.call (1 : (Cert.SearchIdeal.Λ₀ F).Label) (⟨arg0, harg0, arg2, arg3'⟩ : Cert.SearchIdeal.Cc0While1 F)) := by subst e; rfl

/-- A call of the second loop, its record replaced. -/
theorem call2 (v15 : BitVec 32) (h : ¬Cert.Search.k0_cond1 v15 = 1#1) (h' : ¬Cert.SearchIdeal.k0_cond1 v15 = 1#1)
    (arg0 : Memref Cert.Search.sig .tc .vmem Cert.Search.S64x32x1024 .i32) (harg0 : arg0.IsWhole) (v7_0 v16 arg2 arg3 : BitVec 32) :
    prog (f (F := F)) (Prog.lift (.call (2 : (Cert.Search.Λ₀ F).Label) (⟨v15, h, arg0, harg0, v7_0, v16, arg2, arg3⟩ : Cert.Search.Cc0While2 F)) :
        Prog (TpuEff Cert.Search.nD Cert.Search.τ Cert.Search.sig (Elt F) (Cert.Search.Λ₀ F) .tc) (BitVec 32 × BitVec 32))
      = Prog.lift (.call (2 : (Cert.SearchIdeal.Λ₀ F).Label) (⟨v15, h', arg0, harg0, v7_0, v16, arg2, arg3⟩ : Cert.SearchIdeal.Cc0While2 F)) := rfl

theorem pay3 : Cert.Search.Gen.k0_pay3 = Cert.SearchIdeal.Gen.k0_pay3 := rfl
theorem pay6 : Cert.Search.Gen.k0_pay6 = Cert.SearchIdeal.Gen.k0_pay6 := rfl
theorem pay9 : Cert.Search.Gen.k0_pay9 = Cert.SearchIdeal.Gen.k0_pay9 := rfl
theorem cond1 : Cert.Search.k0_cond1 = Cert.SearchIdeal.k0_cond1 := rfl

set_option maxRecDepth 65536 in
theorem body (arg0 : Memref Cert.Search.sig .tc .vmem Cert.Search.S64x32x1024 .i32) (harg0 : arg0.IsWhole)
    (arg1 : Memref Cert.Search.sig .tc .smem Cert.Search.S2 .i32) (harg1 : arg1.IsWhole) :
    prog f (Cert.Search.cc0__search_body (F := F) arg0 harg0 arg1 harg1) = Cert.SearchIdeal.cc0__search_body (F := F) arg0 harg0 arg1 harg1 := by
  rw [Cert.Search.Gen.cc0__search_body_eq_skeleton, Cert.SearchIdeal.Gen.cc0__search_body_eq_skeleton]
  unfold Cert.Search.Gen.cc0__search_body_skel Cert.SearchIdeal.Gen.cc0__search_body_skel
  simp only [prog_dite, prog_bind, prog_for]
  refine bind_congr ?_ fun v2 => bind_congr ?_ fun v7 => ?_
  · rfl
  · exact call1 _ _ _ _ _ (by rw [pay3])
  refine bind_congr ?_ fun v11 => ?_
  · rfl
  have e6 : extractAt ![0, 0, 0] (Cert.Search.Gen.k0_pay6 v11) Cert.Search.Gen.inpos_S1x1x1_p0_0_0
      = extractAt ![0, 0, 0] (Cert.SearchIdeal.Gen.k0_pay6 v11) Cert.SearchIdeal.Gen.inpos_S1x1x1_p0_0_0 := by rw [pay6]
  generalize extractAt ![0, 0, 0] (Cert.Search.Gen.k0_pay6 v11) Cert.Search.Gen.inpos_S1x1x1_p0_0_0 = v15 at e6 ⊢
  generalize extractAt ![0, 0, 0] (Cert.SearchIdeal.Gen.k0_pay6 v11) Cert.SearchIdeal.Gen.inpos_S1x1x1_p0_0_0 = v15' at e6 ⊢
  subst e6
  refine dite_congr' (fun h => ?_) fun h => ?_
  · refine bind_congr ?_ fun v25 => ?_
    · rfl
    refine bind_congr (congrArg Prog.ret (by rw [pay9])) fun v20 => ?_
    rfl
  · refine bind_congr (call2 _ _ _ _ _ _ _ _ _) fun v23 => ?_
    refine bind_congr rfl fun v20 => ?_
    rfl

/-- The bodies' tables agree. -/
theorem bodies (pr : Proc Cert.Search.τ) (ℓ : (Cert.Search.Λ₀ F).Label) (a : (Cert.Search.Λ₀ F).Args ℓ) {Ad : Fin 1 → Type} {α : Type}
    (k : (Cert.Search.Λ₀ F).Result ℓ → Prog (TpuEff Cert.Search.nD Cert.Search.τ Cert.Search.sig (Elt F) (Pipeline.Sig (Cert.SearchIdeal.Λ₀ F) (Fin 1) Ad) pr) α) :
    (Pipeline.liftProg (Cert.SearchIdeal.defs₀ (F := F) pr (f.lab ℓ) (f.arg ℓ a)) >>= fun x => k (f.res ℓ x))
      = Pipeline.liftProg (prog f (Cert.Search.defs₀ (F := F) pr ℓ a)) >>= k := by
  match pr, ℓ, a with
  | .tc, 0, a => exact congrArg (Pipeline.liftProg · >>= k) (body _ (Cert.Search.Facts₀.hstage0_0 0) _ (Cert.Search.Facts₀.hstage0_1 0)).symm
  | .tc, 1, a => exact congrArg (Pipeline.liftProg · >>= k) (while1 _ _ _ _).symm
  | .tc, 2, a => exact congrArg (Pipeline.liftProg · >>= k) (while2 _ _ _ _ _ _ _ _).symm
  | .scScalar _, 0, a => rfl
  | .scScalar _, 1, a => rfl
  | .scScalar _, 2, a => rfl
  | .scVector _ _, 0, a => rfl
  | .scVector _ _, 1, a => rfl
  | .scVector _ _, 2, a => rfl

/-- A run of `SearchIdeal`, for any float values, is a run of `Search`. -/
theorem θ_run_search (s : MemSt Cert.Search.nD Cert.Search.τ Cert.Search.sig (Elt F)) (Q : PUnit × MemSt Cert.Search.nD Cert.Search.τ Cert.Search.sig (Elt F) → Prop)
    (h : θ_run (Cert.SearchIdeal.defs (F := F)) (onTc (τ := Cert.SearchIdeal.τ) (Cert.SearchIdeal.main (F := F))) s Q) :
    θ_run (Cert.Search.defs (F := F)) (onTc (τ := Cert.Search.τ) (Cert.Search.main (F := F))) s Q := by
  refine θ_run_of_prog (outer f (Adm (Val := Elt F) (Cert.Search.cfgs (F := F)))) (Cert.Search.defs (F := F)) (Cert.SearchIdeal.defs (F := F))
    (fun pr ℓ a α k => defs_prog f (Cert.Search.cfgs (F := F)) Cert.Search.defs₀ Cert.SearchIdeal.defs₀ (fun pr ℓ a α k => bodies pr ℓ a k) pr ℓ a k) _ s Q ?_
  have e : (fun c => prog (outer f (Adm (Val := Elt F) (Cert.Search.cfgs (F := F)))) (onTc (τ := Cert.Search.τ) (Cert.Search.main (F := F)) c))
      = onTc (τ := Cert.SearchIdeal.τ) (Cert.SearchIdeal.main (F := F)) := by
    funext c
    rcases c with ⟨d, _ | _ | _⟩ <;> rfl
  exact e ▸ h

end Cert.Proof.Same
-- ==== Proof.lean ====
/-
  The certificate of three calls: the key search, the decoding product and the encoding product. `Search` and
  `SearchIdeal` are the same text over integers, so the kernel's run (`Body.run_main`, for any float values) serves both
  (`Same.θ_run_search`); the reference's two runs are read at their one result, which is the kernel's
  (`Select.refOuts_eq`). The two products are read over the reals, each against its reference's one product
  (`Decode.run`, `Decode.reference` and `Chosen.sum_sparse`; `Encode.run` and `Encode.reference`).
-/
module

public import proofs.«01_k».proof.Proof.Gen.SelectionIdeal.Run
public import proofs.«01_k».proof.Proof.Gen.Selection.Run
public import proofs.«01_k».proof.Proof.Gen.DecodeIdeal.Value
public import proofs.«01_k».proof.Proof.Gen.ReconstructionIdeal.Run
public import proofs.«01_k».proof.Proof.Gen.EncodeIdeal.Value
public import proofs.«01_k».proof.Proof.Gen.ActivationsIdeal.Run
public import proofs.«01_k».proof.Proof.Gen.Decode.Frame
public import proofs.«01_k».proof.Proof.Gen.Encode.Frame
public import proofs.«01_k».proof.Proof.Gen.EncodeKeys.Frame
public import proofs.«01_k».proof.Proof.Encode
public import proofs.«01_k».proof.Proof.Decode
public import proofs.«01_k».proof.Proof.Chosen
public import proofs.«01_k».proof.Defs
public import proofs.«01_k».proof.Proof.Gen.Search
public import proofs.«01_k».proof.Proof.Gen.Search.Skeleton
public import proofs.«01_k».proof.Proof.Gen.Search.Loops
public import proofs.«01_k».proof.Proof.Gen.Search.Launch
public import proofs.«01_k».proof.Proof.Gen.Search.Points
public import proofs.«01_k».proof.Proof.Gen.SearchIdeal
public import proofs.«01_k».proof.Proof.Gen.SearchIdeal.Skeleton
public import proofs.«01_k».proof.Proof.Gen.SearchIdeal.Loops
public import proofs.«01_k».proof.Proof.Gen.SearchIdeal.Launch
public import proofs.«01_k».proof.Proof.Gen.SearchIdeal.Points
public import proofs.«01_k».proof.Proof.Gen.SelectionIdeal
public import proofs.«01_k».proof.Proof.Gen.Selection
public import proofs.«01_k».proof.Proof.Gen.Pre_keys_in_range
public import proofs.«01_k».proof.Proof.Gen.Pre_searched
public import proofs.«01_k».proof.Proof.Run
public import proofs.«01_k».proof.Proof.Same
public import proofs.«01_k».proof.Proof.Select
public import Idealize.ShloMosaic.Lib.ReduceAll
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

variable {F : FTy → Type} [FloatOps F]

/-- The precondition, read: every key is a 31-bit number below the greatest. -/
theorem small_of_pre (x : IVec Cert.Pre_keys_in_range.S64x32x1024 32)
    (h : Cert.Pre_keys_in_range.fn (F := F) x = fun _ => 1#1) : Body.Small x := fun i => by
  have h0 := congrFun h (fun k => k.elim0)
  dsimp only [Cert.Pre_keys_in_range.fn] at h0
  haveI : Subsingleton Cert.Pre_keys_in_range.S_.Idx := ⟨fun a b => funext fun k => k.elim0⟩
  have h1 := Host.reduce_andi_all _ _ _ _ _ h0 i
  obtain ⟨h2, h3⟩ := IntOp.andi_eq_one.mp h1
  have h4 : (0#32).sle (x i) = true := by
    cases hb : (0#32).sle (x i)
    · exact absurd ((congrArg BitVec.ofBool hb).symm.trans h2) (by decide)
    · rfl
  have h5 : (x i).slt 2147483647#32 = true := by
    cases hb : (x i).slt 2147483647#32
    · exact absurd ((congrArg BitVec.ofBool hb).symm.trans h3) (by decide)
    · rfl
  rw [BitVec.sle_iff_toInt_le] at h4
  rw [BitVec.slt_iff_toInt_lt] at h5
  have e0 : (0#32).toInt = 0 := by decide
  have e1 : (2147483647#32).toInt = 2147483647 := by decide
  rw [e0] at h4
  rw [e1] at h5
  rw [BitVec.toInt_eq_toNat_cond] at h4 h5
  split at h5 <;> omega

/-- The decoding precondition, read: every key is at most the word of infinity, and the two words are the threshold and the tie position. -/
theorem searched_of_pre (s : IVec Cert.Pre_searched.S2 32) (a : IVec Cert.Pre_searched.S64x32x1024 32)
    (w : FVec Ideal Cert.Pre_searched.S2048x65536 .f32) (h : Cert.Pre_searched.fn (F := Ideal) s a w = fun _ => 1#1) :
    (∀ i, (a i).toNat ≤ Spell.inf) ∧ s (ValueIdx.ix1 0) = BitVec.ofNat 32 (Count.T (Body.kw a))
      ∧ s (ValueIdx.ix1 1) = BitVec.ofNat 32 (Count.P (Body.kw a)) := by
  have h0 := congrFun h (fun k => k.elim0)
  dsimp only [Cert.Pre_searched.fn, Cert.Pre_searched.fn_part1] at h0
  obtain ⟨h1, hu⟩ := IntOp.andi_eq_one.mp h0
  obtain ⟨hr, hp⟩ := IntOp.andi_eq_one.mp h1
  haveI : Subsingleton Cert.Pre_searched.S_.Idx := ⟨fun a b => funext fun k => k.elim0⟩
  have ha : ∀ i, (a i).toNat ≤ Spell.inf := fun i => by
    obtain ⟨h2, h3⟩ := IntOp.andi_eq_one.mp (Host.reduce_andi_all _ _ _ _ _ hr i)
    replace h2 : IntOp.cmpi .sge (a i) 0#32 = 1#1 := h2
    replace h3 : IntOp.cmpi .sle (a i) 2139095040#32 = 1#1 := h3
    rw [WordCmp.cmpi_sge_zero, WordCmp.ofBool_decide_eq_one_iff] at h2
    rw [WordCmp.cmpi_sle_of_lt h2 (by decide), WordCmp.ofBool_decide_eq_one_iff] at h3
    exact h3
  have eq_of : ∀ x y : BitVec 32, IntOp.cmpi .eq x y = 1#1 → x = y := fun x y e => by
    rw [WordCmp.cmpi_eq_eq, WordCmp.ofBool_decide_eq_one_iff] at e
    exact e
  have at_ : ∀ (y : IVec Cert.Pre_searched.S2048 32), shapeCast Cert.Pre_searched.S_ (extractStridedSlice Cert.Pre_searched.S1 ![2047] y
      Cert.Pre_searched.Facts.slices_S2048_S1_2047) Cert.Pre_searched.Facts.shapeCasts_S1_S_ (fun k => k.elim0) = y (.ofFin (2047 : Fin 2048)) :=
    fun y => Select.entry y (ValueIdx.ix1 (0 : Fin 1))
  have hs := Chosen.small ha
  refine ⟨ha, ?_, ?_⟩
  · refine Eq.trans ?_ ((eq_of _ _ hp).trans ((at_ _).trans (Select.last_value hs)))
    refine congrArg s (funext fun b => Fin.ext ?_)
    match b with
    | ⟨0, _⟩ => rfl
  · refine Eq.trans ?_ ((eq_of _ _ hu).trans ((at_ _).trans (Select.last_index hs)))
    refine congrArg s (funext fun b => Fin.ext ?_)
    match b with
    | ⟨0, _⟩ => rfl

/-- The kernel's run, of the text that is read on words: the same text. -/
theorem search (m : (ℓ : Loc Cert.Search.nD Cert.Search.τ Cert.Search.sig) → Buf (Elt F) ℓ) (g : Dev Cert.Search.nD → PrngReg)
    (hx : ∀ c : Dev Cert.Search.nD, Body.Small (m ((c.tc : Thread Cert.Search.nD Cert.Search.τ).loc Cert.Search.main_arg0))) :
    θ_run (Cert.Search.defs (F := F)) (onTc (τ := Cert.Search.τ) (Cert.Search.main (F := F))) ⟨m, fun _ => 0, g⟩ (fun r => (∀ c : Dev Cert.Search.nD,
      r.2.mem ((c.tc : Thread Cert.Search.nD Cert.Search.τ).loc Cert.Search.main_v0)
          = Body.outs (m ((c.tc : Thread Cert.Search.nD Cert.Search.τ).loc Cert.Search.main_arg0))
      ∧ r.2.mem ((c.tc : Thread Cert.Search.nD Cert.Search.τ).loc Cert.Search.main_arg0)
          = m ((c.tc : Thread Cert.Search.nD Cert.Search.τ).loc Cert.Search.main_arg0)) ∧ r.2.sem = fun _ => 0) :=
  Same.θ_run_search ⟨m, fun _ => 0, g⟩ _ (Body.run_main (F := F) m g hx)

/-- The reference's run at the ideal reading, its result named. -/
theorem selection_ideal (m : (ℓ : Loc Cert.SelectionIdeal.nD Cert.SelectionIdeal.τ Cert.SelectionIdeal.sig) → Buf (Elt F) ℓ)
    (g : Dev Cert.SelectionIdeal.nD → PrngReg)
    (hx : ∀ c : Dev Cert.SelectionIdeal.nD, Body.Small (m ((c.tc : Thread Cert.SelectionIdeal.nD Cert.SelectionIdeal.τ).loc Cert.SelectionIdeal.main_arg0))) :
    θ_run (Cert.SelectionIdeal.defs (F := F)) (onTc (τ := Cert.SelectionIdeal.τ) (Cert.SelectionIdeal.main (F := F))) ⟨m, fun _ => 0, g⟩ (fun r =>
      ∀ c : Dev Cert.SelectionIdeal.nD,
        r.2.mem ((c.tc : Thread Cert.SelectionIdeal.nD Cert.SelectionIdeal.τ).loc Cert.SelectionIdeal.main_v8)
            = Body.outs (m ((c.tc : Thread Cert.SelectionIdeal.nD Cert.SelectionIdeal.τ).loc Cert.SelectionIdeal.main_arg0))
        ∧ r.2.mem ((c.tc : Thread Cert.SelectionIdeal.nD Cert.SelectionIdeal.τ).loc Cert.SelectionIdeal.main_arg0)
            = m ((c.tc : Thread Cert.SelectionIdeal.nD Cert.SelectionIdeal.τ).loc Cert.SelectionIdeal.main_arg0)) :=
  (θ_run _ _ _).mono (fun _ h c => ⟨(h c).1.trans (Select.refOuts_eq (hx c)), (h c).2⟩) (Cert.SelectionIdeal.Value.run m g)

/-- The reference's run on words, its result named. -/
theorem selection (m : (ℓ : Loc Cert.Selection.nD Cert.Selection.τ Cert.Selection.sig) → Buf (Elt F) ℓ)
    (g : Dev Cert.Selection.nD → PrngReg)
    (hx : ∀ c : Dev Cert.Selection.nD, Body.Small (m ((c.tc : Thread Cert.Selection.nD Cert.Selection.τ).loc Cert.Selection.main_arg0))) :
    θ_run (Cert.Selection.defs (F := F)) (onTc (τ := Cert.Selection.τ) (Cert.Selection.main (F := F))) ⟨m, fun _ => 0, g⟩ (fun r =>
      ∀ c : Dev Cert.Selection.nD,
        r.2.mem ((c.tc : Thread Cert.Selection.nD Cert.Selection.τ).loc Cert.Selection.main_v8)
            = Body.outs (m ((c.tc : Thread Cert.Selection.nD Cert.Selection.τ).loc Cert.Selection.main_arg0))
        ∧ r.2.mem ((c.tc : Thread Cert.Selection.nD Cert.Selection.τ).loc Cert.Selection.main_arg0)
            = m ((c.tc : Thread Cert.Selection.nD Cert.Selection.τ).loc Cert.Selection.main_arg0)) :=
  (θ_run _ _ _).mono (fun _ h c => ⟨(h c).1.trans (Select.refOuts_eq (hx c)), (h c).2⟩) (Cert.Selection.Value.run m g)

theorem claim : Cert.Claim :=
  ⟨Cert.Search.Gen.facts, Cert.SearchIdeal.Gen.facts, Cert.SelectionIdeal.Gen.facts, Cert.Selection.Gen.facts,
    Cert.Decode.Gen.facts, Cert.DecodeIdeal.Gen.facts, Cert.ReconstructionIdeal.Gen.facts, Cert.EncodeKeys.Gen.facts, Cert.Encode.Gen.facts,
    Cert.EncodeIdeal.Gen.facts, Cert.ActivationsIdeal.Gen.facts, Cert.Pre_keys_in_range.Gen.facts, Cert.Pre_searched.Gen.facts,
    fun m g hp => (θ_run _ _ _).mono (fun _ h => ⟨fun c => (h.1 c).2, h.2⟩)
      (search (F := Bits) m g fun c => small_of_pre _ (hp c)),
    fun m g hp => (θ_run Cert.SearchIdeal.defs _ _).mono (fun _ h => ⟨fun c => (h.1 c).2, h.2⟩)
      (Body.run_main (F := Ideal) m g fun c => small_of_pre _ (hp c)),
    fun m g _ => (θ_run _ _ _).mono (fun r h => ⟨fun c => (h c).2, sem_eq_zero_of_no_sems rfl r.2⟩) (Cert.SelectionIdeal.Value.run (F := Ideal) m g),
    fun m g _ => (θ_run _ _ _).mono (fun r h => ⟨fun c => (h c).2, sem_eq_zero_of_no_sems rfl r.2⟩) (Cert.SelectionIdeal.Value.run (F := Ideal) m g),
    fun m g _ => (θ_run _ _ _).mono (fun r h => ⟨fun c => (h c).2, sem_eq_zero_of_no_sems rfl r.2⟩) (Cert.Selection.Value.run (F := Bits) m g),
    fun m g _ => Cert.Decode.Gen.frame m g,
    fun m g _ => Cert.DecodeIdeal.Gen.frame m g,
    fun m g _ => Cert.DecodeIdeal.Gen.frame m g,
    fun m g _ => (θ_run _ _ _).mono (fun r h => ⟨fun c => (h c).2, sem_eq_zero_of_no_sems rfl r.2⟩) (Cert.ReconstructionIdeal.Value.run (F := Ideal) m g),
    fun m g _ => (θ_run _ _ _).mono (fun r h => ⟨fun c => (h c).2, sem_eq_zero_of_no_sems rfl r.2⟩) (Cert.ReconstructionIdeal.Value.run (F := Ideal) m g),
    fun m g _ => Cert.EncodeKeys.Gen.frame m g,
    fun m g _ => Cert.Encode.Gen.frame m g,
    fun m g _ => Cert.EncodeIdeal.Gen.frame m g,
    fun m g _ => (θ_run _ _ _).mono (fun r h => ⟨fun c => (h c).2, sem_eq_zero_of_no_sems rfl r.2⟩) (Cert.ActivationsIdeal.Value.run (F := Ideal) m g),
    trivial,
    fun m g m' g' hp he => ⟨fun c => Body.outs (m ((c.tc : Thread Cert.SearchIdeal.nD Cert.SearchIdeal.τ).loc Cert.SearchIdeal.main_arg0)),
      (θ_run Cert.SearchIdeal.defs _ _).mono (fun _ h c => ⟨(h.1 c).1, (h.1 c).2⟩) (Body.run_main (F := Ideal) m g fun c => small_of_pre _ (hp c)),
      (θ_run _ _ _).mono (fun _ h c => ⟨(h c).1.trans (congrArg Body.outs (he c)), (h c).2⟩)
        (selection_ideal (F := Ideal) m' g' fun c => (he c).symm ▸ small_of_pre _ (hp c))⟩,
    fun m g m' g' hp he => ⟨fun c => Body.outs (m ((c.tc : Thread Cert.Search.nD Cert.Search.τ).loc Cert.Search.main_arg0)),
      (θ_run _ _ _).mono (fun _ h c => h.1 c) (search (F := Bits) m g fun c => small_of_pre _ (hp c)),
      (θ_run _ _ _).mono (fun _ h c => ⟨(h c).1.trans (congrArg Body.outs (he c)), (h c).2⟩)
        (selection (F := Bits) m' g' fun c => (he c).symm ▸ small_of_pre _ (hp c))⟩,
    trivial,
    fun m g m' g' hp he => ⟨fun c => Decode.result m c, Decode.run m g,
      (θ_run _ _ _).mono (fun _ h c => ⟨(h c).1.trans (by
        obtain ⟨ha, h0, h1⟩ := searched_of_pre _ _ _ (hp c)
        obtain ⟨a0, a1, a2⟩ := he c
        rw [a1, a2]
        exact funext fun i => (Decode.reference (Chosen.sparse (Decode.argA m c)) (Decode.argW m c) i).trans (Chosen.sum_sparse ha h0 h1 i)), (h c).2⟩)
        (Cert.ReconstructionIdeal.Value.run (F := Ideal) m' g')⟩,
    trivial,
    fun m g m' g' _ he => ⟨fun c => Encode.result m c, Encode.run m g,
      (θ_run _ _ _).mono (fun _ h c => ⟨(h c).1.trans (by
        obtain ⟨a0, a1, a2, a3⟩ := he c
        rw [a0, a1, a2, a3]
        exact funext (Encode.reference _ _ _ _)), (h c).2⟩) (Cert.ActivationsIdeal.Value.run (F := Ideal) m' g')⟩⟩

end Cert.Proof

end
